-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .f32) (main_arg1 : FVec F S512x1024 .f32) (main_arg2 : FVec F S2x256x4x64 .f32) (main_arg3 : FVec F S2x256x4x64 .f32) (main_arg4 : FVec F S1024x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x256x4x64 .f32 := Host.absf main_arg2
  let main_cst_2 : FVec F S_ .f32 := constant S_ .f32 0x7F800000#32
  let main_v10 : FVec F S2x256x4x64 .f32 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_inputs_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .f32) (main_arg1 : FVec F S512x1024 .f32) (main_arg2 : FVec F S2x256x16x64 .f32) (main_arg3 : FVec F S2x256x16x64 .f32) (main_arg4 : FVec F S1024x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x256x16x64 .f32 := Host.absf main_arg2
  let main_cst_2 : FVec F S_ .f32 := constant S_ .f32 0x7F800000#32
  let main_v10 : FVec F S2x256x16x64 .f32 := broadcastInDim S2x256x16x64 ![] bcast_S_S2x256x16x64 main_cst_2
  let main_v11 : IVec S2x256x16x64 1 := cmpf .olt main_v9 main_v10
  let main_c_3 : IVec S_ 1 := constantI S_ 1 1#1
  let main_v12 : IVec S_ 1 := (fun x v => Host.reduce IntOp.andi x v reducesTo_S2x256x16x64_S_d0_1_2_3 h_S_) main_v11 main_c_3
  let main_v13 : IVec S_ 1 := andi main_v8 main_v12
  main_v13
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S512x256 : Shape := ⟨2, ![512, 256]⟩
abbrev S2x4x256x256 : Shape := ⟨4, ![2, 4, 256, 256]⟩
abbrev S2x4 : Shape := ⟨2, ![2, 4]⟩
abbrev S_ : Shape := ⟨0, ![]⟩
abbrev S256x256 : Shape := ⟨2, ![256, 256]⟩
abbrev S1x256x512 : Shape := ⟨3, ![1, 256, 512]⟩
abbrev S256x512 : Shape := ⟨2, ![256, 512]⟩
abbrev S256x64 : Shape := ⟨2, ![256, 64]⟩
abbrev S1x256x1x64 : Shape := ⟨4, ![1, 256, 1, 64]⟩
abbrev S256 : Shape := ⟨1, ![256]⟩
abbrev S256x1 : Shape := ⟨2, ![256, 1]⟩
abbrev S1x1 : Shape := ⟨2, ![1, 1]⟩
abbrev S1x1x256x256 : Shape := ⟨4, ![1, 1, 256, 256]⟩

abbrev nBuf : Space → Nat
  | .hbm => 6
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x1024, .f32⟩
  | .hbm, ⟨2, _⟩ => ⟨S2x256x4x64, .f32⟩
  | .hbm, ⟨3, _⟩ => ⟨S2x256x4x64, .f32⟩
  | .hbm, ⟨4, _⟩ => ⟨S1024x512, .f32⟩
  | .hbm, ⟨5, _⟩ => ⟨S2x256x512, .f32⟩
  | .local _ .vmem, ⟨0, _⟩ => ⟨S2x256x512, .f32⟩
  | .local _ .vmem, ⟨1, _⟩ => ⟨S512x1024, .f32⟩
  | .local _ .vmem, ⟨2, _⟩ => ⟨S2x256x4x64, .f32⟩
  | .local _ .vmem, ⟨3, _⟩ => ⟨S2x256x4x64, .f32⟩
  | .local _ .vmem, ⟨4, _⟩ => ⟨S1024x512, .f32⟩
  | .local _ .vmem, ⟨5, _⟩ => ⟨S2x256x512, .f32⟩
  | .local _ .vmem, ⟨6, _⟩ => ⟨S512x256, .bf16⟩
  | .local _ .vmem, ⟨7, _⟩ => ⟨S2x4x256x256, .bf16⟩
  | .local _ .vmem, ⟨8, _⟩ => ⟨S1024x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v16 : BitVec 32 := Scalar.muli v2 c256_i32
  let v17 : Index := Scalar.indexCast v16
  ![0, v17.toNat]
def k0_dev4 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_91 : BitVec 32 := 2#32
  let v178 : BitVec 32 := Scalar.addi v2 c2_i32_91
  let c4_i32_92 : BitVec 32 := 4#32
  let v179 : BitVec 32 := Scalar.remsi v178 c4_i32_92
  let c1_i32_99 : BitVec 32 := 1#32
  let v180 : BitVec 32 := Scalar.muli v179 c1_i32_99
  let v181 : BitVec 32 := Scalar.addi c0_i32_100 v180
  v181.toNat
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_105 : BitVec 32 := 1#32
  let v189 : BitVec 32 := Scalar.addi v2 c1_i32_105
  let c4_i32_106 : BitVec 32 := 4#32
  let v190 : BitVec 32 := Scalar.remsi v189 c4_i32_106
  let c1_i32_113 : BitVec 32 := 1#32
  let v191 : BitVec 32 := Scalar.muli v190 c1_i32_113
  let v192 : BitVec 32 := Scalar.addi c0_i32_114 v191
  v192.toNat
def k0_dev6 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_119 : BitVec 32 := 3#32
  let v200 : BitVec 32 := Scalar.addi v2 c3_i32_119
  let c4_i32_120 : BitVec 32 := 4#32
  let v201 : BitVec 32 := Scalar.remsi v200 c4_i32_120
  let c1_i32_127 : BitVec 32 := 1#32
  let v202 : BitVec 32 := Scalar.muli v201 c1_i32_127
  let v203 : BitVec 32 := Scalar.addi c0_i32_128 v202
  v203.toNat
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_187 : BitVec 32 := 2#32
  let v281 : BitVec 32 := Scalar.addi v2 c2_i32_187
  let c4_i32_188 : BitVec 32 := 4#32
  let v282 : BitVec 32 := Scalar.remsi v281 c4_i32_188
  let c1_i32_195 : BitVec 32 := 1#32
  let v283 : BitVec 32 := Scalar.muli v282 c1_i32_195
  let v284 : BitVec 32 := Scalar.addi c0_i32_196 v283
  v284.toNat
def k0_dev8 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_201 : BitVec 32 := 1#32
  let v292 : BitVec 32 := Scalar.addi v2 c1_i32_201
  let c4_i32_202 : BitVec 32 := 4#32
  let v293 : BitVec 32 := Scalar.remsi v292 c4_i32_202
  let c1_i32_209 : BitVec 32 := 1#32
  let v294 : BitVec 32 := Scalar.muli v293 c1_i32_209
  let v295 : BitVec 32 := Scalar.addi c0_i32_210 v294
  v295.toNat
def k0_dev9 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_215 : BitVec 32 := 3#32
  let v303 : BitVec 32 := Scalar.addi v2 c3_i32_215
  let c4_i32_216 : BitVec 32 := 4#32
  let v304 : BitVec 32 := Scalar.remsi v303 c4_i32_216
  let c1_i32_223 : BitVec 32 := 1#32
  let v305 : BitVec 32 := Scalar.muli v304 c1_i32_223
  let v306 : BitVec 32 := Scalar.addi c0_i32_224 v305
  v306.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_233 : BitVec 32 := 256#32
  let v320 : BitVec 32 := Scalar.muli v2 c256_i32_233
  let v321 : Index := Scalar.indexCast v320
  let c0_234 : Index := 0#32
  ![v321.toNat, 0]
def k0_off3 (d0 : Dev nD) (c1_i32_251 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_250 : BitVec 32 := 4#32
  let v332 : BitVec 32 := Scalar.addi v2 c4_i32_250
  let v333 : BitVec 32 := Scalar.subi v332 c1_i32_251
  let c4_i32_252 : BitVec 32 := 4#32
  let v334 : BitVec 32 := Scalar.remsi v333 c4_i32_252
  let c256_i32_253 : BitVec 32 := 256#32
  let v335 : BitVec 32 := Scalar.muli v334 c256_i32_253
  let v336 : Index := Scalar.indexCast v335
  let c0_254 : Index := 0#32
  ![v336.toNat, 0]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 137
  | .vmem => 0
  | .smem => 0
  | _ => 0

abbrev hbmTy0_0 (i : Nat) : BufTy := match i % 128 with
  | 0 => ⟨S2x256x512, .f32⟩
  | 1 => ⟨S512x1024, .f32⟩
  | 2 => ⟨S2x256x16x64, .f32⟩
  | 3 => ⟨S2x256x16x64, .f32⟩
  | 4 => ⟨S1024x512, .f32⟩
  | 5 => ⟨S2x256x1024, .f32⟩
  | 6 => ⟨S2x256x16x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256, .i32⟩
  | 28 => ⟨S_, .i32⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S256, .i32⟩
  | 37 => ⟨S256, .i32⟩
  | 38 => ⟨S_, .i32⟩
  | 39 => ⟨S256, .i32⟩
  | 40 => ⟨S256, .i1⟩
  | 41 => ⟨S256, .i1⟩
  | 42 => ⟨S_, .i32⟩
  | 43 => ⟨S256, .i32⟩
  | 44 => ⟨S256, .i32⟩
  | 45 => ⟨S256, .i32⟩
  | 46 => ⟨S1x256, .i32⟩
  | 47 => ⟨S256x256, .i32⟩
  | 48 => ⟨S256x256, .i32⟩
  | 49 => ⟨S256x256, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x256, .i32⟩
  | 57 => ⟨S1x256, .i32⟩
  | 58 => ⟨S_, .i32⟩
  | 59 => ⟨S1x256, .i32⟩
  | 60 => ⟨S1x256, .i1⟩
  | 61 => ⟨S_, .i32⟩
  | 62 => ⟨S1x256, .i32⟩
  | 63 => ⟨S1x256, .i1⟩
  | 64 => ⟨S_, .i32⟩
  | 65 => ⟨S_, .i1⟩
  | 66 => ⟨S1x256, .i1⟩
  | 67 => ⟨S1x256, .i1⟩
  | 68 => ⟨S1x256, .i1⟩
  | 69 => ⟨S1x256, .i32⟩
  | 70 => ⟨S1x256, .i32⟩
  | 71 => ⟨S1x256, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x256, .i32⟩
  | 95 => ⟨S256x256, .i32⟩
  | 96 => ⟨S256x256, .i1⟩
  | 97 => ⟨S256x256, .i1⟩
  | 98 => ⟨S2x16x256x256, .f32⟩
  | 99 => ⟨S_, .f32⟩
  | 100 => ⟨S2x16x256x256, .f32⟩
  | 101 => ⟨S2x16x256x256, .f32⟩
  | 102 => ⟨S1x1x256x256, .i1⟩
  | 103 => ⟨S_, .f32⟩
  | 104 => ⟨S_, .f32⟩
  | 105 => ⟨S2x16x256x256, .i1⟩
  | 106 => ⟨S2x16x256x256, .f32⟩
  | 107 => ⟨S2x16x256x256, .f32⟩
  | 108 => ⟨S_, .f32⟩
  | 109 => ⟨S2x16x256, .f32⟩
  | 110 => ⟨S2x16x256x1, .f32⟩
  | 111 => ⟨S2x16x256x256, .f32⟩
  | 112 => ⟨S2x16x256x256, .f32⟩
  | 113 => ⟨S2x16x256x256, .f32⟩
  | 114 => ⟨S_, .i1⟩
  | 115 => ⟨S256, .i1⟩
  | 116 => ⟨S1x1x256x1, .i1⟩
  | 117 => ⟨S_, .f32⟩
  | 118 => ⟨S2x16x256, .f32⟩
  | 119 => ⟨S2x16x256x1, .f32⟩
  | 120 => ⟨S_, .f32⟩
  | 121 => ⟨S_, .f32⟩
  | 122 => ⟨S2x16x256x1, .i1⟩
  | 123 => ⟨S2x16x256x1, .f32⟩
  | 124 => ⟨S2x16x256x1, .f32⟩
  | 125 => ⟨S2x16x256x256, .f32⟩
  | 126 => ⟨S2x16x256x256, .f32⟩
  | 127 => ⟨S1x1x256x1, .i1⟩
  | _ => ⟨S2x256x512, .f32⟩

abbrev hbmTy0_1 (i : Nat) : BufTy := match i % 128 with
  | 0 => ⟨S_, .f32⟩
  | 1 => ⟨S_, .f32⟩
  | 2 => ⟨S2x16x256x256, .i1⟩
  | 3 => ⟨S2x16x256x256, .f32⟩
  | 4 => ⟨S2x16x256x256, .f32⟩
  | 5 => ⟨S2x16x64x256, .f32⟩
  | 6 => ⟨S2x256x16x64, .f32⟩
  | 7 => ⟨S2x256x1024, .f32⟩
  | 8 => ⟨S2x256x512, .f32⟩
  | _ => ⟨S2x256x512, .f32⟩

abbrev hbmTy (i : Nat) : BufTy := match i / 128 with
  | 0 => hbmTy0_0 i
  | 1 => hbmTy0_1 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Contents.lean ====
/-
# What each buffer of the kernel holds

The values the kernel computes on device `c`, as functions of the five argument arrays at launch: the block of
queries, the mask, the two attention contexts (one per batch entry, each a 256 × 256 block: 256 rows, four heads of 64),
and the two output blocks, each the sum of four products — the device's own context and the three it receives, each
with its own 256 rows of the output projection. The functions are the payloads of the generated skeleton, composed.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.AttnProof

open Cert.KernelIdeal Cert.KernelIdeal.Gen
open Idealize.ShloMosaic
open Idealize.ShloMosaic.TcCoe
open Idealize.SL Idealize.SL.Sem

variable {F : FTy → Type} [FloatOps F]

/-! ## The ring of devices -/

set_option backward.proofsInPublic true in
/-- The device `r` places up the ring of four. -/
def sh (r : Fin 4) (c : Dev nD) : Dev nD := ⟨(c.val + r.val) % 4, Nat.mod_lt _ (by decide)⟩
set_option backward.proofsInPublic true in
/-- The distance that takes a step of `r` back. -/
def neg (r : Fin 4) : Fin 4 := ⟨(4 - r.val) % 4, Nat.mod_lt _ (by decide)⟩

/-- A step of `r` up and the step back. -/
theorem sh_neg_sh (r : Fin 4) (c : Dev nD) : sh (neg r) (sh r c) = c := by revert r c; decide
/-- A step back and the step of `r` up. -/
theorem sh_sh_neg (r : Fin 4) (c : Dev nD) : sh r (sh (neg r) c) = c := by revert r c; decide
/-- Stepping back twice is the step. -/
theorem neg_neg (r : Fin 4) : neg (neg r) = r := by revert r; decide

/-! ## The buffers -/

abbrev xM : Memref sig .tc .vmem S2x256x512 .f32 := Memref.whole cc0_stg0_0
abbrev wqM : Memref sig .tc .vmem S512x1024 .f32 := Memref.whole cc0_stg1_0
abbrev kM : Memref sig .tc .vmem S2x256x4x64 .f32 := Memref.whole cc0_stg2_0
abbrev vM : Memref sig .tc .vmem S2x256x4x64 .f32 := Memref.whole cc0_stg3_0
abbrev woM : Memref sig .tc .vmem S1024x512 .f32 := Memref.whole cc0_stg4_0
abbrev oM : Memref sig .tc .vmem S2x256x512 .f32 := Memref.whole cc0_stg5_0
abbrev ctxM : Memref sig .tc .vmem S512x256 .bf16 := Memref.whole cc0_scratch0
abbrev rsM : Memref sig .tc .vmem S2x4x256x256 .bf16 := Memref.whole cc0_scratch1
abbrev wobM : Memref sig .tc .vmem S1024x512 .bf16 := Memref.whole cc0_scratch2

/-- A load of a rectangle of `x`, of the keys or values, of the output projection in its working format. -/
abbrev ldX (off : Fin 3 → Nat) (h : ∀ a, off a + S1x256x512.size a ≤ S2x256x512.size a) (f : (cc0_stg0_0 : Ref sig .tc).ty.Contents (Elt F)) :
    Vec F S1x256x512 .f32 := (xM : Memref sig .tc .vmem S2x256x512 .f32).view.readAt (Elt F) (Rect.unit (s := S2x256x512) off S1x256x512.size h).toLoadRect f
abbrev ldWq (off : Fin 2 → Nat) (h : ∀ a, off a + S512x256.size a ≤ S512x1024.size a) (f : (cc0_stg1_0 : Ref sig .tc).ty.Contents (Elt F)) :
    Vec F S512x256 .f32 := (wqM : Memref sig .tc .vmem S512x1024 .f32).view.readAt (Elt F) (Rect.unit (s := S512x1024) off S512x256.size h).toLoadRect f
abbrev ldK (off : Fin 4 → Nat) (h : ∀ a, off a + S1x256x1x64.size a ≤ S2x256x4x64.size a) (f : (cc0_stg2_0 : Ref sig .tc).ty.Contents (Elt F)) :
    Vec F S1x256x1x64 .f32 := (kM : Memref sig .tc .vmem S2x256x4x64 .f32).view.readAt (Elt F) (Rect.unit (s := S2x256x4x64) off S1x256x1x64.size h).toLoadRect f
abbrev ldV (off : Fin 4 → Nat) (h : ∀ a, off a + S1x256x1x64.size a ≤ S2x256x4x64.size a) (f : (cc0_stg3_0 : Ref sig .tc).ty.Contents (Elt F)) :
    Vec F S1x256x1x64 .f32 := (vM : Memref sig .tc .vmem S2x256x4x64 .f32).view.readAt (Elt F) (Rect.unit (s := S2x256x4x64) off S1x256x1x64.size h).toLoadRect f
abbrev ldWo (off : Fin 2 → Nat) (h : ∀ a, off a + S256x512.size a ≤ S1024x512.size a) (f : (cc0_scratch2 : Ref sig .tc).ty.Contents (Elt F)) :
    Vec F S256x512 .bf16 := (wobM : Memref sig .tc .vmem S1024x512 .bf16).view.readAt (Elt F) (Rect.unit (s := S1024x512) off S256x512.size h).toLoadRect f

/-! ## The staged arguments -/

section Values

variable (m : (ℓ : Loc nD τ sig) → Buf (Elt F) ℓ)

def xA (c : Dev nD) : (cc0_stg0_0 : Ref sig .tc).ty.Contents (Elt F) := (win0_0.blk (0 : Fin 1)).view.read (Elt F) (m ((c : Thread nD τ).loc main_arg0))
def wqA (c : Dev nD) : (cc0_stg1_0 : Ref sig .tc).ty.Contents (Elt F) := (win0_1.blk (0 : Fin 1)).view.read (Elt F) (m ((c : Thread nD τ).loc main_arg1))
def kA (c : Dev nD) : (cc0_stg2_0 : Ref sig .tc).ty.Contents (Elt F) := (win0_2.blk (0 : Fin 1)).view.read (Elt F) (m ((c : Thread nD τ).loc main_arg2))
def vA (c : Dev nD) : (cc0_stg3_0 : Ref sig .tc).ty.Contents (Elt F) := (win0_3.blk (0 : Fin 1)).view.read (Elt F) (m ((c : Thread nD τ).loc main_arg3))
def woA (c : Dev nD) : (cc0_stg4_0 : Ref sig .tc).ty.Contents (Elt F) := (win0_4.blk (0 : Fin 1)).view.read (Elt F) (m ((c : Thread nD τ).loc main_arg4))

/-! ## The attention of one device -/

/-- The mask as factors, one where a query may look at a key and zero elsewhere. -/
def maskV : FVec F S256x256 .f32 :=
  let v20 : IVec S256x256 32 := iota .tc S256x256 32 [0] iota_S256x256_d0_w32
  let v31 : BitVec 32 := Scalar.extui (Scalar.cmpi .sgt 64#32 0#32)
  let v72 : BitVec 32 := Scalar.select (Scalar.cmpi .eq 4#32 0#32) 1#32 4#32
  k0_pay10 (F := F) (k0_pay4 v20 64#32 k0_pay2 k0_pay3 v31 0#32) (k0_pay6 v20 64#32 k0_pay2 k0_pay3 v31 0#32) v72 k0_pay7 k0_pay8 k0_pay9

/-- The device's 256 columns of the query projection. -/
def wqV (c : Dev nD) : FVec F S512x256 .f32 := k0_pay1 (ldWq (k0_off1 c) (k0_off1_inb c) (wqA m c))

abbrev x0V (c : Dev nD) : Vec F S1x256x512 .f32 := ldX ![0, 0, 0] inb_S2x256x512_S1x256x512_0_0_0 (xA m c)
abbrev x1V (c : Dev nD) : Vec F S1x256x512 .f32 := ldX ![1, 0, 0] inb_S2x256x512_S1x256x512_1_0_0 (xA m c)

/-- The context of the first batch entry, as the kernel computes it head by head. -/
def ctx0 (c : Dev nD) : FVec F S256x256 .bf16 :=
  k0_pay18 maskV (k0_pay11 (wqV m c) (x0V m c))
    (k0_pay14 maskV (k0_pay12 (wqV m c) (x0V m c)) (k0_pay13 (ldK ![0, 0, 0, 0] inb_S2x256x4x64_S1x256x1x64_0_0_0_0 (kA m c))) (ldV ![0, 0, 0, 0] inb_S2x256x4x64_S1x256x1x64_0_0_0_0 (vA m c)))
    (k0_pay15 maskV (k0_pay11 (wqV m c) (x0V m c)) (ldK ![0, 0, 1, 0] inb_S2x256x4x64_S1x256x1x64_0_0_1_0 (kA m c)) (ldV ![0, 0, 1, 0] inb_S2x256x4x64_S1x256x1x64_0_0_1_0 (vA m c)))
    (k0_pay16 (ldV ![0, 0, 2, 0] inb_S2x256x4x64_S1x256x1x64_0_0_2_0 (vA m c)))
    (k0_pay17 maskV (k0_pay11 (wqV m c) (x0V m c)) (ldK ![0, 0, 2, 0] inb_S2x256x4x64_S1x256x1x64_0_0_2_0 (kA m c)))
    (ldK ![0, 0, 3, 0] inb_S2x256x4x64_S1x256x1x64_0_0_3_0 (kA m c)) (ldV ![0, 0, 3, 0] inb_S2x256x4x64_S1x256x1x64_0_0_3_0 (vA m c))

/-- The context of the second batch entry. -/
def ctx1 (c : Dev nD) : FVec F S256x256 .bf16 :=
  k0_pay28
    (k0_pay20 (wqV m c) maskV (x1V m c) (ldK ![1, 0, 0, 0] inb_S2x256x4x64_S1x256x1x64_1_0_0_0 (kA m c)) (ldV ![1, 0, 0, 0] inb_S2x256x4x64_S1x256x1x64_1_0_0_0 (vA m c)))
    (k0_pay23 (k0_pay21 (ldV ![1, 0, 1, 0] inb_S2x256x4x64_S1x256x1x64_1_0_1_0 (vA m c))) (k0_pay22 (wqV m c) maskV (x1V m c) (ldK ![1, 0, 1, 0] inb_S2x256x4x64_S1x256x1x64_1_0_1_0 (kA m c))))
    (k0_pay24 maskV (k0_pay19 (wqV m c) (x1V m c)) (ldK ![1, 0, 2, 0] inb_S2x256x4x64_S1x256x1x64_1_0_2_0 (kA m c)) (ldV ![1, 0, 2, 0] inb_S2x256x4x64_S1x256x1x64_1_0_2_0 (vA m c)))
    (k0_pay25 (ldV ![1, 0, 3, 0] inb_S2x256x4x64_S1x256x1x64_1_0_3_0 (vA m c)))
    (k0_pay26 maskV (k0_pay19 (wqV m c) (x1V m c)) (ldK ![1, 0, 3, 0] inb_S2x256x4x64_S1x256x1x64_1_0_3_0 (kA m c)))
    (k0_pay27 maskV (k0_pay19 (wqV m c) (x1V m c)) (ldK ![1, 0, 3, 0] inb_S2x256x4x64_S1x256x1x64_1_0_3_0 (kA m c)))

/-- The context of batch entry `b`. -/
def ctxB (b : Fin 2) (c : Dev nD) : FVec F S256x256 .bf16 := if b = 0 then ctx0 m c else ctx1 m c

/-- A 256 × 256 block read at the shape of one landing slot. -/
def up (X : S256x256.Idx → Elt F .bf16) : S1x1x256x256.Idx → Elt F .bf16 :=
  fun j => X (Shape.reshapeEquiv (s := S256x256) (s' := S1x1x256x256) squeezes_S1x1x256x256_S256x256.numel_eq.symm j)

/-- What lands in slot `(b, r)`: the context of the device `r` places down the ring. -/
abbrev got (b : Fin 2) (r : Fin 4) (c : Dev nD) : Vec F S1x1x256x256 .bf16 := up (ctxB m b (sh (neg r) c))

/-- The output projection in its working format, whole and its rows for the device itself and for the senders. -/
def wobV (c : Dev nD) : FVec F S1024x512 .bf16 := k0_pay29 (woA m c)
abbrev woMine (c : Dev nD) : Vec F S256x512 .bf16 := ldWo (k0_off2 c) (k0_off2_inb c) (wobV m c)
abbrev wo1 (c : Dev nD) : Vec F S256x512 .bf16 := ldWo (k0_off3 c 1#32) (k0_off3_inb c 0) (wobV m c)
abbrev wo2 (c : Dev nD) : Vec F S256x512 .bf16 := ldWo (k0_off3 c 2#32) (k0_off3_inb c 1) (wobV m c)
abbrev wo3 (c : Dev nD) : Vec F S256x512 .bf16 := ldWo (k0_off3 c 3#32) (k0_off3_inb c 2) (wobV m c)

/-- The output block of the first batch entry, -/
def out0 (c : Dev nD) : FVec F S1x256x512 .f32 :=
  k0_pay32 (k0_pay31 (k0_pay30 (woMine m c) (ctx0 m c)) (wo1 m c) (got m 0 1 c)) (wo3 m c) (got m 0 3 c) (wo2 m c) (got m 0 2 c)
/-- and of the second. -/
def out1 (c : Dev nD) : FVec F S1x256x512 .f32 :=
  k0_pay36 (k0_pay34 (k0_pay33 (woMine m c) (ctx1 m c) (wo1 m c) (got m 1 1 c)) (wo3 m c) (got m 1 3 c)) (wo2 m c) (k0_pay35 (got m 1 2 c))

/-- The output buffer after the two stores, over whatever it held. -/
def outW (c : Dev nD) (f : (cc0_stg5_0 : Ref sig .tc).ty.Contents (Elt F)) : (cc0_stg5_0 : Ref sig .tc).ty.Contents (Elt F) :=
  ((oM : Memref sig .tc .vmem S2x256x512 .f32).access (Rect.unit (s := S2x256x512) ![1, 0, 0] S1x256x512.size inb_S2x256x512_S1x256x512_1_0_0)).write (Elt F)
    (((oM : Memref sig .tc .vmem S2x256x512 .f32).access (Rect.unit (s := S2x256x512) ![0, 0, 0] S1x256x512.size inb_S2x256x512_S1x256x512_0_0_0)).write (Elt F) f (out0 m c) Finset.univ)
    (out1 m c) Finset.univ

end Values

end Cert.AttnProof

end
-- ==== Proof.Schedule.lean ====
/-
# The protocol of the exchange

Every device hands each of the other three its two landing slots for that device with a signal on the runtime's barrier
semaphore, waits for the three signals it is owed, and then copies each finished context block into its slot on the
three others. Under the rounds library every semaphore's cell has ONE round:

* the barrier cell of device `d` has the duties `1, 2, 3` of one unit each; duty `r` is paid by the device `r` places up
  the ring and hands over that device's slots `(0, r)` and `(1, r)`, which `d` will write;
* the send cell `(b, r)` has one duty, the block's credit; it gives back the quarter of the context block the copy read;
* the receive cell `(b, r)` has one duty, the block's credit; it gives the slot `(b, r)` holding the context of the
  device `r` places down the ring.

The cells with `r = 0` have no duty.
-/
module

public import proofs.«01_k».proof.Proof.Contents
public import proofs.«01_k».proof.Proof.Gen.KernelIdeal.Launch
public import Idealize.ShloMosaic.Lib.MemrefSat

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, its duties named by distances -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The blocks of the context and the landing slots -/

/-- The rows of batch entry `b` in the context buffer; the slot `(b, r)` of the landing buffer. -/
def ctxR (b : Fin 2) : Rect S512x256 := Rect.unit (s := S512x256) ![256 * b.val, 0] S256x256.size (by revert b; decide)
def rsR (p : Fin 2 × Fin 4) : Rect S2x4x256x256 := Rect.unit (s := S2x4x256x256) ![p.1.val, p.2.val, 0, 0] S1x1x256x256.size (by revert p; decide)

def ctxS (b : Fin 2) : Memref sig .tc .vmem S256x256 .bf16 := (ctxM : Memref sig .tc .vmem S512x256 .bf16).slice (ctxR b) (fun _ => rfl)
def rsS (b : Fin 2) (r : Fin 4) : Memref sig .tc .vmem S1x1x256x256 .bf16 := (rsM : Memref sig .tc .vmem S2x4x256x256 .bf16).slice (rsR (b, r)) (fun _ => rfl)
/-- The slot at the shape of a context block, as the copies address it. -/
def rsQ (b : Fin 2) (r : Fin 4) : Memref sig .tc .vmem S256x256 .bf16 := (rsS b r).squeeze S256x256 squeezes_S1x1x256x256_S256x256

/-! ## The semaphores and their cells -/

abbrev barS : Sem sig := (SemArray.scalar (sig.barrier 0 rfl) : Sems sig S_).sem
def sS (b : Fin 2) (r : Fin 4) : DmaSem sig := (⟨6 + 4 * b.val + r.val, by revert b r; decide⟩ : Fin 22)
def rS (b : Fin 2) (r : Fin 4) : DmaSem sig := (⟨14 + 4 * b.val + r.val, by revert b r; decide⟩ : Fin 22)

abbrev barCell (c : Dev nD) : GSem nD τ sig := ((c : Thread nD τ), .reg barS)
abbrev sendCell (c : Dev nD) (b : Fin 2) (r : Fin 4) : GSem nD τ sig := ((c : Thread nD τ), .dma (sS b r))
abbrev recvCell (c : Dev nD) (b : Fin 2) (r : Fin 4) : GSem nD τ sig := ((c : Thread nD τ), .dma (rS b r))

/-- Which batch entry and which distance a DMA semaphore of the kernel is for, and whether it is a receive semaphore. -/
def qb (q : DmaSem sig) : Fin 2 := ⟨(q.val + 2) / 4 % 2, Nat.mod_lt _ (by decide)⟩
def qr (q : DmaSem sig) : Fin 4 := ⟨(q.val + 2) % 4, Nat.mod_lt _ (by decide)⟩

theorem qb_sS (b : Fin 2) (r : Fin 4) : qb (sS b r) = b := by revert b r; decide
theorem qr_sS (b : Fin 2) (r : Fin 4) : qr (sS b r) = r := by revert b r; decide
theorem qb_rS (b : Fin 2) (r : Fin 4) : qb (rS b r) = b := by revert b r; decide
theorem qr_rS (b : Fin 2) (r : Fin 4) : qr (rS b r) = r := by revert b r; decide
theorem sS_lt (b : Fin 2) (r : Fin 4) : ¬ 14 ≤ (sS b r).val := by revert b r; decide
theorem rS_le (b : Fin 2) (r : Fin 4) : 14 ≤ (rS b r).val := by revert b r; decide
theorem sS_le (b : Fin 2) (r : Fin 4) : 6 ≤ (sS b r).val := by revert b r; decide
theorem rS_le6 (b : Fin 2) (r : Fin 4) : 6 ≤ (rS b r).val := by revert b r; decide
theorem rS_inj {b b' : Fin 2} {r r' : Fin 4} (h : rS b r = rS b' r') : b = b' ∧ r = r' :=
  ⟨by rw [← qb_rS b r, h, qb_rS], by rw [← qr_rS b r, h, qr_rS]⟩

/-- The credit of one block's copy. -/
abbrev N : ℕ := (rsQ 0 1).view.dmaCredit
theorem N_pos : 0 < N := View.dmaCredit_pos _ (by decide)
/-- It is the same for every slot. -/
theorem credit_eq (b : Fin 2) (r : Fin 4) : (rsQ b r).view.dmaCredit = N := rfl

/-! ## What the duties hand over -/

/-- The quarter share of a context block for the copy at distance `r`; the device keeps the quarter `0` to read. -/
def qs (r : Fin 4) : PosShare TreeShare := match r with
  | 0 => fullShare.left.left | 1 => fullShare.left.right | 2 => fullShare.right.left | 3 => fullShare.right.right

/-- Slot `(b, r)` of device `c`, at any contents; holding `X`. -/
def slotAny (c : Dev nD) (b : Fin 2) (r : Fin 4) : sProp 𝕄 := ownsSat (c : Thread nD τ) (rsQ b r) fullShare (fun _ => True)
def slotAt (c : Dev nD) (b : Fin 2) (r : Fin 4) (X : S256x256.Idx → Elt F .bf16) : sProp 𝕄 := owns (c : Thread nD τ) (rsQ b r) fullShare X
/-- The share `q` of the context block `b` of device `c`, holding `X`. -/
def ctxAt (c : Dev nD) (b : Fin 2) (q : PosShare TreeShare) (X : S256x256.Idx → Elt F .bf16) : sProp 𝕄 := owns (c : Thread nD τ) (ctxS b) q X

def barPay (c : Dev nD) (r : Fin 4) : sProp 𝕄 := iprop(slotAny (sh r c) 0 r ∗ slotAny (sh r c) 1 r)
def sendPay (c : Dev nD) (b : Fin 2) (r : Fin 4) : sProp 𝕄 := ctxAt c b (qs r) (ctxB m b c)
def recvPay (c : Dev nD) (b : Fin 2) (r : Fin 4) : sProp 𝕄 := slotAt c b r (ctxB m b (sh (neg r) c))

omit [FloatOps F] in
instance slotAny_storable (c : Dev nD) (b : Fin 2) (r : Fin 4) : BI.Storable (upEmb : UEmb _ 𝕄) (slotAny (F := F) c b r) := by
  unfold slotAny; infer_instance
omit [FloatOps F] in
instance slotAt_storable (c : Dev nD) (b : Fin 2) (r : Fin 4) (X) : BI.Storable (upEmb : UEmb _ 𝕄) (slotAt (F := F) c b r X) := by
  unfold slotAt; rw [owns_eq_ownsSat]; infer_instance
omit [FloatOps F] in
instance ctxAt_storable (c : Dev nD) (b : Fin 2) (q) (X) : BI.Storable (upEmb : UEmb _ 𝕄) (ctxAt (F := F) c b q X) := by
  unfold ctxAt; rw [owns_eq_ownsSat]; infer_instance

/-! ## The schedule -/

/-- The duties of a semaphore's one round, -/
def duty (sm : SemLoc sig) : Finset (Fin 4) := match sm with
  | .reg _ => {1, 2, 3}
  | .dma q => if 6 ≤ q.val ∧ qr q ≠ 0 then {0} else ∅
/-- their amount, -/
def amt (sm : SemLoc sig) : ℕ := match sm with
  | .reg _ => 1
  | .dma _ => N
/-- and what duty `d` of device `c`'s semaphore hands over. -/
def pay (c : Dev nD) (sm : SemLoc sig) (d : Fin 4) : sProp 𝕄 := match sm with
  | .reg _ => barPay c d
  | .dma q => if 14 ≤ q.val then recvPay m c (qb q) (qr q) else sendPay m c (qb q) (qr q)

def rd : Rounds.Schedule (GSem nD τ sig) (Fin 4) 𝕄 where
  duties g r := if r = 0 ∧ g.1.2 = .tc then duty g.2 else ∅
  unitless _ := False
  amount g _ _ := amt g.2
  payload g _ d := pay m g.1.1 g.2 d
  amount_pos g _ _ _ := by
    rcases g with ⟨t, s | q⟩
    · exact Nat.one_pos
    · exact N_pos

instance rd_payload_storable (g : GSem nD τ sig) (r : ℕ) (d : Fin 4) :
    BI.Storable (upEmb : UEmb _ 𝕄) ((rd (F := F) m).payload g r d) := by
  show BI.Storable upEmb (pay m g.1.1 g.2 d)
  rcases g with ⟨t, s | q⟩
  · unfold pay barPay; infer_instance
  · unfold pay recvPay sendPay
    dsimp only; split <;> infer_instance

section Sched
variable (c : Dev nD) (b : Fin 2) (r : Fin 4)

theorem duties_bar : (rd (F := F) m).duties (barCell c) 0 = {1, 2, 3} := by dsimp only [rd]; exact if_pos ⟨rfl, rfl⟩
theorem duties_send (h : r ≠ 0) : (rd (F := F) m).duties (sendCell c b r) 0 = {0} := by
  dsimp only [rd]; rw [if_pos ⟨rfl, rfl⟩]; unfold duty; exact if_pos ⟨sS_le b r, by rw [qr_sS]; exact h⟩
theorem duties_recv (h : r ≠ 0) : (rd (F := F) m).duties (recvCell c b r) 0 = {0} := by
  dsimp only [rd]; rw [if_pos ⟨rfl, rfl⟩]; unfold duty; exact if_pos ⟨rS_le6 b r, by rw [qr_rS]; exact h⟩
theorem duties_later (g : GSem nD τ sig) : ∀ r, 1 ≤ r → (rd (F := F) m).duties g r = ∅ :=
  fun r hr => by dsimp only [rd]; rw [if_neg fun h => by omega]
/-- A semaphore of distance `0` has no duty at all. -/
theorem duties_none (c : Dev nD) (q : DmaSem sig) (hq : qr q = 0) (r : ℕ) : (rd (F := F) m).duties ((c : Thread nD τ), .dma q) r = ∅ := by
  dsimp only [rd]; split
  · unfold duty; exact if_neg fun h => h.2 hq
  · rfl

theorem amount_bar (d : Fin 4) : (rd (F := F) m).amount (barCell c) 0 d = 1 := rfl
theorem amount_send (d : Fin 4) : (rd (F := F) m).amount (sendCell c b r) 0 d = N := rfl
theorem amount_recv (d : Fin 4) : (rd (F := F) m).amount (recvCell c b r) 0 d = N := rfl

theorem expect_bar : (rd (F := F) m).expect (barCell c) 0 = 3 := by
  unfold Schedule.expect Schedule.amountOf
  rw [duties_bar, Finset.sum_congr rfl fun d _ => amount_bar m c d, Finset.sum_const]; rfl
theorem expect_send (h : r ≠ 0) : (rd (F := F) m).expect (sendCell c b r) 0 = N := by
  unfold Schedule.expect Schedule.amountOf; rw [duties_send m c b r h, Finset.sum_singleton, amount_send]
theorem expect_recv (h : r ≠ 0) : (rd (F := F) m).expect (recvCell c b r) 0 = N := by
  unfold Schedule.expect Schedule.amountOf; rw [duties_recv m c b r h, Finset.sum_singleton, amount_recv]

theorem payload_bar (d : Fin 4) : (rd (F := F) m).payload (barCell c) 0 d = barPay c d := rfl
theorem payload_send (d : Fin 4) : (rd (F := F) m).payload (sendCell c b r) 0 d = sendPay m c b r := by
  show (if 14 ≤ (sS b r).val then _ else _) = _
  rw [if_neg (sS_lt b r), qb_sS, qr_sS]
theorem payload_recv (d : Fin 4) : (rd (F := F) m).payload (recvCell c b r) 0 d = recvPay m c b r := by
  show (if 14 ≤ (rS b r).val then _ else _) = _
  rw [if_pos (rS_le b r), qb_rS, qr_rS]

/-- All that the three barrier duties hand over. -/
theorem rest_bar : bigSep ((rd (F := F) m).duties (barCell c) 0 \ ∅) (fun d => (rd (F := F) m).payload (barCell c) 0 d)
    = iprop(barPay c 1 ∗ barPay c 2 ∗ barPay c 3) := by
  rw [Finset.sdiff_empty, duties_bar, bigSep_eq_bigSepL_of_eq [1, 2, 3] (by decide) (by decide)]
  rfl
theorem rest_send (h : r ≠ 0) : bigSep ((rd (F := F) m).duties (sendCell c b r) 0 \ ∅) (fun d => (rd (F := F) m).payload (sendCell c b r) 0 d)
    = sendPay m c b r := by
  rw [Finset.sdiff_empty, duties_send m c b r h, bigSep_singleton, payload_send]
theorem rest_recv (h : r ≠ 0) : bigSep ((rd (F := F) m).duties (recvCell c b r) 0 \ ∅) (fun d => (rd (F := F) m).payload (recvCell c b r) 0 d)
    = recvPay m c b r := by
  rw [Finset.sdiff_empty, duties_recv m c b r h, bigSep_singleton, payload_recv]

end Sched

/-! ## What a device owes, and the levels -/

/-- Device `c` owes the copies of a list, each its receiver's credit, and then the signals of a list, each one unit. -/
def owS (c : Dev nD) : List (Fin 2 × Fin 4) → CellTallies nD τ sig Unit
  | [] => 0
  | p :: l => owS c l + tallyAt (recvCell (sh p.2 c) p.1 p.2) () N
def copies : List (Fin 2 × Fin 4) := [(0, 2), (0, 1), (0, 3), (1, 2), (1, 1), (1, 3)]
def owB (c : Dev nD) : List (Fin 4) → CellTallies nD τ sig Unit
  | [] => owS c copies
  | r :: l => owB c l + tallyAt (barCell (sh r c)) () 1
/-- What it owes at launch. -/
def O₀ (c : Dev nD) : CellTallies nD τ sig Unit := owB c [1, 2, 3]

def L (g : GSem nD τ sig) : Finset Unit := if g.1.2 = .tc then {()} else ∅
/-- The barrier cells at level 1, the receive cells at 2, everything else at 0. -/
def lv (g : GSem nD τ sig) (_ : Unit) : ℕ := match g.2 with
  | .reg _ => 1
  | .dma q => if 14 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Copies are owed to receive cells only, -/
theorem owS_pos {c : Dev nD} {l : List (Fin 2 × Fin 4)} {g : GSem nD τ sig} {u : Unit} (h : 0 < owS c l g u) :
    ∃ d b r, g = recvCell d b r := by
  induction l with
  | nil => exact absurd h (Nat.lt_irrefl 0)
  | cons p l ih =>
    unfold owS at h
    rw [Pi.add_apply, Finsupp.add_apply, tallyAt_apply] at h
    by_cases hg : g = recvCell (sh p.2 c) p.1 p.2 ∧ u = ()
    · exact ⟨_, _, _, hg.1⟩
    · rw [if_neg hg, Nat.add_zero] at h; exact ih h
/-- and everything owed is owed to a receive cell or a barrier cell. -/
theorem owB_pos {c : Dev nD} {l : List (Fin 4)} {g : GSem nD τ sig} {u : Unit} (h : 0 < owB c l g u) :
    (∃ d b r, g = recvCell d b r) ∨ ∃ d, g = barCell d := by
  induction l with
  | nil => exact Or.inl (owS_pos h)
  | cons r l ih =>
    unfold owB at h
    rw [Pi.add_apply, Finsupp.add_apply, tallyAt_apply] at h
    by_cases hg : g = barCell (sh r c) ∧ u = ()
    · exact Or.inr ⟨_, hg.1⟩
    · rw [if_neg hg, Nat.add_zero] at h; exact ih h

theorem lv_recv (c : Dev nD) (b : Fin 2) (r : Fin 4) (u : Unit) : lv (recvCell c b r) u = 2 := if_pos (rS_le b r)

omit [FloatOps F] in
/-- A staging copy's wait is below everything owed. -/
theorem mayWait_stage (c : Dev nD) (q : DmaSem sig) (hq : ¬ 14 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owB_pos hg with ⟨d, b, r, rfl⟩ | ⟨d, rfl⟩ <;> exact Finset.mem_singleton_self _)
      (fun p hp => by rw [Finset.mem_singleton.mp hp]; exact (if_neg hq).le)
      (fun g u hg => by
        rcases owB_pos hg with ⟨d, b, r, rfl⟩ | ⟨d, rfl⟩
        · rw [lv_recv]; decide
        · exact Nat.one_pos)
  · rw [MayWait_zero]; iintro -; iempintro

omit [FloatOps F] in
/-- The barrier wait is below the copies still owed. -/
theorem mayWait_bar (c : Dev nD) (l : List (Fin 2 × Fin 4)) :
    (levAts L lv : sProp 𝕄) ⊢ MayWait (c : Thread nD τ) (.reg barS) () (owS c l) :=
  MayOwe.of_cut (L := L) (lev := lv) 1 (fun p hp => by rw [Finset.mem_singleton.mp hp, L_tc]; exact Finset.mem_singleton_self _)
    (fun g u hg => by obtain ⟨d, b, r, rfl⟩ := owS_pos hg; exact Finset.mem_singleton_self _)
    (fun p hp => by rw [Finset.mem_singleton.mp hp]; exact le_refl _)
    (fun g u hg => by obtain ⟨d, b, r, rfl⟩ := owS_pos hg; rw [lv_recv]; decide)

/-! ## All cells: their index, invariants and first marks -/

set_option backward.proofsInPublic true in
/-- The semaphore of index `k`: the barrier's, then the eight send and the eight receive semaphores. -/
def csem (k : Fin 17) : SemLoc sig := if k.val = 0 then .reg barS else .dma (⟨5 + k.val, by omega⟩ : Fin 22)
abbrev kcell (ck : Dev nD × Fin 17) : GSem nD τ sig := ((ck.1 : Thread nD τ), csem ck.2)
def kS (b : Fin 2) (r : Fin 4) : Fin 17 := ⟨1 + 4 * b.val + r.val, by revert b r; decide⟩
def kR (b : Fin 2) (r : Fin 4) : Fin 17 := ⟨9 + 4 * b.val + r.val, by revert b r; decide⟩

theorem csem_bar : csem 0 = .reg barS := rfl
theorem csem_send (b : Fin 2) (r : Fin 4) : csem (kS b r) = .dma (sS b r) := by revert b r; decide
theorem csem_recv (b : Fin 2) (r : Fin 4) : csem (kR b r) = .dma (rS b r) := by revert b r; decide

/-- Every cell's invariant, under the names `K`, and that every cell's round 0 is open: what all devices share. -/
def records (K : Dev nD × Fin 17 → ℕ) : sProp 𝕄 :=
  iprop((bigSep Finset.univ fun ck : Dev nD × Fin 17 => cellInv ER (rd m) (K ck) (kcell ck))
    ∗ bigSep Finset.univ fun ck : Dev nD × Fin 17 => reached ER (kcell ck) 0)

instance records_persistent (K : Dev nD × Fin 17 → ℕ) : BI.Persistent (records m K) := by unfold records; infer_instance

variable (K : Dev nD × Fin 17 → ℕ)

theorem inv_at (ck : Dev nD × Fin 17) : (records m K : sProp 𝕄) ⊢ cellInv ER (rd m) (K ck) (kcell ck) := by
  unfold records; iintro ⟨HI, -⟩
  iapply (show (bigSep Finset.univ fun ck : Dev nD × Fin 17 => (cellInv ER (rd m) (K ck) (kcell ck) : sProp 𝕄)) ⊢ cellInv ER (rd m) (K ck) (kcell ck) from
    bigSep_elim (Finset.mem_univ ck))
  iexact HI
theorem reached_at (ck : Dev nD × Fin 17) : (records m K : sProp 𝕄) ⊢ reached ER (kcell ck) 0 := by
  unfold records; iintro ⟨-, HR⟩
  iapply (show (bigSep Finset.univ fun ck : Dev nD × Fin 17 => (reached ER (kcell ck) 0 : sProp 𝕄)) ⊢ reached ER (kcell ck) 0 from
    bigSep_elim (Finset.mem_univ ck))
  iexact HR

theorem inv_bar (c : Dev nD) : (records m K : sProp 𝕄) ⊢ cellInv ER (rd m) (K (c, 0)) (barCell c) := inv_at m K (c, 0)
theorem inv_send (c : Dev nD) (b : Fin 2) (r : Fin 4) : (records m K : sProp 𝕄) ⊢ cellInv ER (rd m) (K (c, kS b r)) (sendCell c b r) := by
  have h := inv_at m K (c, kS b r); unfold kcell at h; rwa [csem_send] at h
theorem inv_recv (c : Dev nD) (b : Fin 2) (r : Fin 4) : (records m K : sProp 𝕄) ⊢ cellInv ER (rd m) (K (c, kR b r)) (recvCell c b r) := by
  have h := inv_at m K (c, kR b r); unfold kcell at h; rwa [csem_recv] at h
theorem reached_bar (c : Dev nD) : (records m K : sProp 𝕄) ⊢ reached ER (barCell c) 0 := reached_at m K (c, 0)
theorem reached_send (c : Dev nD) (b : Fin 2) (r : Fin 4) : (records m K : sProp 𝕄) ⊢ reached ER (sendCell c b r) 0 := by
  have h := reached_at m K (c, kS b r); unfold kcell at h; rwa [csem_send] at h
theorem reached_recv (c : Dev nD) (b : Fin 2) (r : Fin 4) : (records m K : sProp 𝕄) ⊢ reached ER (recvCell c b r) 0 := by
  have h := reached_at m K (c, kR b r); unfold kcell at h; rwa [csem_recv] at h

end Cert.AttnProof

end
-- ==== Proof.Steps.lean ====
/-
# The steps of the exchange

One rule for each kind of step the kernel takes on its semaphores — a barrier signal, the barrier wait, a copy, the wait
for a landing, the wait for a copy to have been read — stated once for every batch entry and distance, and the two shapes
in which the kernel addresses a context block and a landing slot.
-/
module

public import proofs.«01_k».proof.Proof.Schedule

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 17 → ℕ)

/-! ## The names the program uses for the blocks, the slots, the semaphores and the devices -/

theorem ctx_at0 : (ctxM : Memref sig .tc .vmem S512x256 .bf16).slice (Rect.unit (s := S512x256) ![0, 0] S256x256.size inb_S512x256_S256x256_0_0) (fun _ => rfl) = ctxS 0 := rfl
theorem ctx_at1 : (ctxM : Memref sig .tc .vmem S512x256 .bf16).slice (Rect.unit (s := S512x256) ![256, 0] S256x256.size inb_S512x256_S256x256_256_0) (fun _ => rfl) = ctxS 1 := rfl
theorem slot_01 : ((rsM : Memref sig .tc .vmem S2x4x256x256 .bf16).slice (Rect.unit (s := S2x4x256x256) ![0, 1, 0, 0] S1x1x256x256.size inb_S2x4x256x256_S1x1x256x256_0_1_0_0) (fun _ => rfl)).squeeze S256x256 squeezes_S1x1x256x256_S256x256 = rsQ 0 1 := rfl
theorem slot_02 : ((rsM : Memref sig .tc .vmem S2x4x256x256 .bf16).slice (Rect.unit (s := S2x4x256x256) ![0, 2, 0, 0] S1x1x256x256.size inb_S2x4x256x256_S1x1x256x256_0_2_0_0) (fun _ => rfl)).squeeze S256x256 squeezes_S1x1x256x256_S256x256 = rsQ 0 2 := rfl
theorem slot_03 : ((rsM : Memref sig .tc .vmem S2x4x256x256 .bf16).slice (Rect.unit (s := S2x4x256x256) ![0, 3, 0, 0] S1x1x256x256.size inb_S2x4x256x256_S1x1x256x256_0_3_0_0) (fun _ => rfl)).squeeze S256x256 squeezes_S1x1x256x256_S256x256 = rsQ 0 3 := rfl
theorem slot_11 : ((rsM : Memref sig .tc .vmem S2x4x256x256 .bf16).slice (Rect.unit (s := S2x4x256x256) ![1, 1, 0, 0] S1x1x256x256.size inb_S2x4x256x256_S1x1x256x256_1_1_0_0) (fun _ => rfl)).squeeze S256x256 squeezes_S1x1x256x256_S256x256 = rsQ 1 1 := rfl
theorem slot_12 : ((rsM : Memref sig .tc .vmem S2x4x256x256 .bf16).slice (Rect.unit (s := S2x4x256x256) ![1, 2, 0, 0] S1x1x256x256.size inb_S2x4x256x256_S1x1x256x256_1_2_0_0) (fun _ => rfl)).squeeze S256x256 squeezes_S1x1x256x256_S256x256 = rsQ 1 2 := rfl
theorem slot_13 : ((rsM : Memref sig .tc .vmem S2x4x256x256 .bf16).slice (Rect.unit (s := S2x4x256x256) ![1, 3, 0, 0] S1x1x256x256.size inb_S2x4x256x256_S1x1x256x256_1_3_0_0) (fun _ => rfl)).squeeze S256x256 squeezes_S1x1x256x256_S256x256 = rsQ 1 3 := rfl

theorem snd_01 : ((cc0_scratch3.slice (Rect.unit (s := S2x4) ![0, 1] S1x1.size inb_S2x4_S1x1_0_1)).squeeze S_ squeezes_S1x1_S_).sem = sS 0 1 := rfl
theorem snd_02 : ((cc0_scratch3.slice (Rect.unit (s := S2x4) ![0, 2] S1x1.size inb_S2x4_S1x1_0_2)).squeeze S_ squeezes_S1x1_S_).sem = sS 0 2 := rfl
theorem snd_03 : ((cc0_scratch3.slice (Rect.unit (s := S2x4) ![0, 3] S1x1.size inb_S2x4_S1x1_0_3)).squeeze S_ squeezes_S1x1_S_).sem = sS 0 3 := rfl
theorem snd_11 : ((cc0_scratch3.slice (Rect.unit (s := S2x4) ![1, 1] S1x1.size inb_S2x4_S1x1_1_1)).squeeze S_ squeezes_S1x1_S_).sem = sS 1 1 := rfl
theorem snd_12 : ((cc0_scratch3.slice (Rect.unit (s := S2x4) ![1, 2] S1x1.size inb_S2x4_S1x1_1_2)).squeeze S_ squeezes_S1x1_S_).sem = sS 1 2 := rfl
theorem snd_13 : ((cc0_scratch3.slice (Rect.unit (s := S2x4) ![1, 3] S1x1.size inb_S2x4_S1x1_1_3)).squeeze S_ squeezes_S1x1_S_).sem = sS 1 3 := rfl
theorem rcv_01 : ((cc0_scratch4.slice (Rect.unit (s := S2x4) ![0, 1] S1x1.size inb_S2x4_S1x1_0_1)).squeeze S_ squeezes_S1x1_S_).sem = rS 0 1 := rfl
theorem rcv_02 : ((cc0_scratch4.slice (Rect.unit (s := S2x4) ![0, 2] S1x1.size inb_S2x4_S1x1_0_2)).squeeze S_ squeezes_S1x1_S_).sem = rS 0 2 := rfl
theorem rcv_03 : ((cc0_scratch4.slice (Rect.unit (s := S2x4) ![0, 3] S1x1.size inb_S2x4_S1x1_0_3)).squeeze S_ squeezes_S1x1_S_).sem = rS 0 3 := rfl
theorem rcv_11 : ((cc0_scratch4.slice (Rect.unit (s := S2x4) ![1, 1] S1x1.size inb_S2x4_S1x1_1_1)).squeeze S_ squeezes_S1x1_S_).sem = rS 1 1 := rfl
theorem rcv_12 : ((cc0_scratch4.slice (Rect.unit (s := S2x4) ![1, 2] S1x1.size inb_S2x4_S1x1_1_2)).squeeze S_ squeezes_S1x1_S_).sem = rS 1 2 := rfl
theorem rcv_13 : ((cc0_scratch4.slice (Rect.unit (s := S2x4) ![1, 3] S1x1.size inb_S2x4_S1x1_1_3)).squeeze S_ squeezes_S1x1_S_).sem = rS 1 3 := rfl

theorem dev1_eq (c : Dev nD) : (⟨k0_dev1 c, k0_dev1_lt c⟩ : Dev nD) = sh 1 c := Fin.ext (k0_dev1_eq c)
theorem dev2_eq (c : Dev nD) : (⟨k0_dev2 c, k0_dev2_lt c⟩ : Dev nD) = sh 2 c := Fin.ext (k0_dev2_eq c)
theorem dev3_eq (c : Dev nD) : (⟨k0_dev3 c, k0_dev3_lt c⟩ : Dev nD) = sh 3 c := Fin.ext (k0_dev3_eq c)
theorem dev4_eq (c : Dev nD) : (⟨k0_dev4 c, k0_dev4_lt c⟩ : Dev nD) = sh 2 c := Fin.ext (k0_dev4_eq c)
theorem dev5_eq (c : Dev nD) : (⟨k0_dev5 c, k0_dev5_lt c⟩ : Dev nD) = sh 1 c := Fin.ext (k0_dev5_eq c)
theorem dev6_eq (c : Dev nD) : (⟨k0_dev6 c, k0_dev6_lt c⟩ : Dev nD) = sh 3 c := Fin.ext (k0_dev6_eq c)
theorem dev7_eq (c : Dev nD) : (⟨k0_dev7 c, k0_dev7_lt c⟩ : Dev nD) = sh 2 c := Fin.ext (k0_dev7_eq c)
theorem dev8_eq (c : Dev nD) : (⟨k0_dev8 c, k0_dev8_lt c⟩ : Dev nD) = sh 1 c := Fin.ext (k0_dev8_eq c)
theorem dev9_eq (c : Dev nD) : (⟨k0_dev9 c, k0_dev9_lt c⟩ : Dev nD) = sh 3 c := Fin.ext (k0_dev9_eq c)

/-! ## The four quarters of a context block -/

omit [FloatOps F] in
/-- A block owned outright is its four quarters, -/
theorem ctx_quarters (c : Dev nD) (b : Fin 2) (X : S256x256.Idx → Elt F .bf16) :
    (ctxAt c b fullShare X : sProp 𝕄) ⊣⊢ iprop((ctxAt c b (qs 0) X ∗ ctxAt c b (qs 1) X) ∗ ctxAt c b (qs 2) X ∗ ctxAt c b (qs 3) X) := by
  unfold ctxAt qs
  constructor
  · iintro H
    ihave H2 := (owns_halves (c : Thread nD τ) (ctxS b) fullShare X).1 $$ H
    icases H2 with ⟨Hl, Hr⟩
    isplitl [Hl]
    · iapply (owns_halves (c : Thread nD τ) (ctxS b) fullShare.left X).1; iexact Hl
    · iapply (owns_halves (c : Thread nD τ) (ctxS b) fullShare.right X).1; iexact Hr
  · iintro ⟨Hl, Hr⟩
    iapply (owns_halves (c : Thread nD τ) (ctxS b) fullShare X).2
    isplitl [Hl]
    · iapply (owns_halves (c : Thread nD τ) (ctxS b) fullShare.left X).2; iexact Hl
    · iapply (owns_halves (c : Thread nD τ) (ctxS b) fullShare.right X).2; iexact Hr

/-! ## The rules -/

section Rules

variable (c : Dev nD)

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, its record of waits left open. -/
abbrev ow (c : Dev nD) (O : CellTallies nD τ sig Unit) : sProp 𝕄 := iprop(∃ W, owes (c : Thread nD τ) O W)

/-- What a device hands over at the barrier signal to distance `r`. -/
def sigRes (c : Dev nD) (r : Fin 4) : sProp 𝕄 := iprop(dutyTok ER (barCell (sh r c)) 0 (neg r) ∗ slotAny c 0 (neg r) ∗ slotAny c 1 (neg r))

/-- What device `c` pays with at a copy: its own send duty and the receiver's receive duty. -/
def copyToks (c : Dev nD) (b : Fin 2) (r : Fin 4) : sProp 𝕄 :=
  iprop(dutyTok ER (sendCell c b r) 0 0 ∗ dutyTok ER (recvCell (sh r c) b r) 0 0)
/-- What a copy takes: its duties, a quarter of the context block, and the slot on the receiver. -/
def sendRes (c : Dev nD) (b : Fin 2) (r : Fin 4) : sProp 𝕄 :=
  iprop(copyToks c b r ∗ ctxAt c b (qs r) (ctxB m b c) ∗ slotAny (sh r c) b r)
/-- What the wait for a landing takes, -/
def recvRes (c : Dev nD) (b : Fin 2) (r : Fin 4) : sProp 𝕄 := iprop(cred (tallyAt (recvCell c b r) () N) ∗ atPos ER (recvCell c b r) 0 ∅ 0)
/-- and what it gives: the slot holding the sender's block. -/
def recvd (c : Dev nD) (b : Fin 2) (r : Fin 4) : sProp 𝕄 := iprop(atPos ER (recvCell c b r) 1 ∅ 0 ∗ slotAt c b r (ctxB m b (sh (neg r) c)))
/-- What the wait for a copy to have been read gives: the quarter of the context block. -/
def sent (c : Dev nD) (b : Fin 2) (r : Fin 4) : sProp 𝕄 := iprop(atPos ER (sendCell c b r) 1 ∅ 0 ∗ ctxAt c b (qs r) (ctxB m b c))

/-- The signal to the device at distance `r` hands it this device's slots for it. -/
theorem step_signal (r : Fin 4) (hr : r ≠ 0) (n : Dev nD) (hn : n = sh r c) (l : List (Fin 4))
    {α : Type} {Q : α → sProp 𝕄} {k : PUnit → Prog (TpuEff nD τ sig (Elt F) Λ₀ .tc) α} :
    iprop(records m K ∗ ow c (owB c (r :: l)) ∗ sigRes c r)
      ⊢ iprop((ow c (owB c l) -∗ wpc c (k ⟨⟩) Q)
          -∗ wpc c (.op (.semSignal (Dev.tc n : Thread nD τ) barS (1#32).toNat) k) Q) := by
  subst hn
  unfold sigRes
  iintro ⟨#HR, ⟨%W, HO⟩, Ht, Hs0, Hs1⟩ Hk
  iapply (Rounds.wp_signal 𝒱₀ ER (rd m) (c : Thread nD τ) none (dst := (sh r c : Thread nD τ)) (κ := K (sh r c, 0))
      (d := neg r) (by rw [duties_bar]; revert r; decide) ((amount_bar m (sh r c) (neg r)).trans (by decide)) () (owB c l) rfl (W := W)) $$ [HO Ht Hs0 Hs1]
  · isplitr; · iapply (inv_bar m K); iexact HR
    isplitl [HO]; · iexact HO
    isplitl [Ht]; · iexact Ht
    isplitl
    · rw [payload_bar]; unfold barPay; rw [sh_neg_sh]
      isplitl [Hs0] <;> iassumption
    · iapply (reached_bar m K); iexact HR
  iintro HO
  iapply Hk
  iexists W; iexact HO

/-- The barrier wait gives the slots on the three other devices. -/
theorem step_barrier (l : List (Fin 2 × Fin 4))
    {α : Type} {Q : α → sProp 𝕄} {k : PUnit → Prog (TpuEff nD τ sig (Elt F) Λ₀ .tc) α} :
    iprop(records m K ∗ levAts L lv ∗ cred (tallyAt (barCell c) () 3) ∗ ow c (owS c l) ∗ atPos ER (barCell c) 0 ∅ 0)
      ⊢ iprop((ow c (owS c l) ∗ atPos ER (barCell c) 1 ∅ 0 ∗ barPay c 1 ∗ barPay c 2 ∗ barPay c 3
            -∗ wpc c (k ⟨⟩) Q)
          -∗ wpc c (.op (.semWait barS (3#32).toNat) k) Q) := by
  iintro ⟨#HR, #Hlev, Hc, ⟨%W, HO⟩, Hat⟩ Hk
  iapply (Rounds.wp_wait_rest_token 𝒱₀ ER (rd m) (c : Thread nD τ) none (κ := K (c, 0))
      (wpE_semWait_eq 𝒱₀ (c : Thread nD τ) none Set.univ) (Set.mem_univ _) () (O := owS c l) (W := W) (R := 0) (m := 0) (T := ∅)
      (by rw [expect_bar]; decide)) $$ [Hc HO Hat]
  · isplitr; · iapply (inv_bar m K); iexact HR
    isplitl [Hc]; · iexact Hc
    isplitl [HO]; · iexact HO
    isplitr; · iapply (mayWait_bar c l); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- A copy of the context block `b` into its slot on the device at distance `r`. -/
theorem step_copy (b : Fin 2) (r : Fin 4) (hr : r ≠ 0) (n : Dev nD) (hn : n = sh r c) (l : List (Fin 2 × Fin 4))
    {src dst : Memref sig .tc .vmem S256x256 .bf16} (hs : src = ctxS b) (hd : dst = rsQ b r)
    {ss rs : DmaSem sig} (h1 : ss = sS b r) (h2 : rs = rS b r)
    {hsc : (dst : Memref sig (Dev.tc n : Thread nD τ).2.kind .vmem S256x256 .bf16).view.ref.isScScratch = false}
    {hsrc : src.view.WordExact} {hdst : dst.view.WordExact}
    {hsem : DmaTarget.Typed .vmem (.dma rs) (.remote (Dev.tc n : Thread nD τ) dst (.dma ss) hsc)}
    {α : Type} {Q : α → sProp 𝕄} {k : PUnit → Prog (TpuEff nD τ sig (Elt F) Λ₀ .tc) α} :
    iprop(records m K ∗ ow c (owS c ((b, r) :: l)) ∗ sendRes m c b r)
      ⊢ iprop((cred (tallyAt (sendCell c b r) () N) ∗ ow c (owS c l) -∗ wpc c (k ⟨⟩) Q)
          -∗ wpc c
              (.op (.enqueueDma src (.remote (Dev.tc n : Thread nD τ) dst (.dma ss) hsc) (.dma rs) hsrc hdst hsem) k) Q) := by
  subst hn; subst hs; subst hd; subst h1; subst h2
  unfold sendRes copyToks ctxAt slotAny owns ownsSat
  iintro ⟨#HR, ⟨%W, HO⟩, ⟨Hts, Htr⟩, ⟨%fs, %hfs, Hc⟩, ⟨%fd, -, Hs⟩⟩ Hk
  iapply (Rounds.wp_send_pointsTo 𝒱₀ ER (rd m) (c : Thread nD τ) none (c' := (sh r c : Thread nD τ)) (src := ctxS b) (dst := rsQ b r)
    (κ₁ := K (c, kS b r)) (κ₂ := K (sh r c, kR b r)) (q := qs r) (fs := fs) (fd := fd)
    (r₁ := 0) (r₂ := 0) (d₁ := 0) (d₂ := 0)
    (by rw [duties_send m c b r hr]; exact Finset.mem_singleton_self _) (by rw [duties_recv m (sh r c) b r hr]; exact Finset.mem_singleton_self _)
    () () N rfl (amount_send m c b r 0) (amount_recv m (sh r c) b r 0) (owS c l) rfl (W := W)
    (by
      rw [payload_send]; unfold sendPay ctxAt owns
      iintro H; iexists fs; isplitr; · ipureintro; exact hfs
      iexact H)
    (by
      rw [payload_recv]; unfold recvPay slotAt owns; rw [sh_neg_sh]
      iintro H; iexists ((rsQ b r).view.write (Elt F) fd ((ctxS b).view.read (Elt F) fs) Finset.univ); isplitr
      · ipureintro; exact (View.read_write_univ _ _).trans hfs
      iexact H)) $$ [HO Hts Htr Hc Hs]
  · isplitr; · iapply (inv_send m K); iexact HR
    isplitr; · iapply (inv_recv m K); iexact HR
    isplitl [Hc]; · iexact Hc
    isplitl [Hs]; · iexact Hs
    isplitl [HO]; · iexact HO
    isplitl [Hts]; · iexact Hts
    isplitr; · iapply (reached_send m K); iexact HR
    isplitl [Htr]; · iexact Htr
    iapply (reached_recv m K); iexact HR
  iintro ⟨Hc, HO⟩
  iapply Hk
  isplitl [Hc]; · iexact Hc
  iexists W; iexact HO

/-- The wait for the landing in slot `(b, r)`, nothing being owed any more. -/
theorem step_landed (b : Fin 2) (r : Fin 4) (hr : r ≠ 0) {src dst : Memref sig .tc .vmem S256x256 .bf16}
    (hd : dst.view.dmaCredit = N) {h1 : src.view.WordExact} {h2 : dst.view.WordExact}
    {α : Type} {Q : α → sProp 𝕄} {k : PUnit → Prog (TpuEff nD τ sig (Elt F) Λ₀ .tc) α} :
    iprop(records m K ∗ ow c 0 ∗ recvRes c b r)
      ⊢ iprop((ow c 0 ∗ recvd m c b r
            -∗ wpc c (k ⟨⟩) Q)
          -∗ wpc c (.op (.waitDma2 (rS b r) src dst h1 h2) k) Q) := by
  unfold recvRes recvd
  iintro ⟨#HR, ⟨%W, HO⟩, Hc, Hat⟩ Hk
  iapply (Rounds.wp_wait_rest_token 𝒱₀ ER (rd m) (c : Thread nD τ) none (κ := K (c, kR b r)) (sm := .dma (rS b r)) (k' := N)
      (by rw [← hd]; exact wpE_waitDma2_eq 𝒱₀ (c : Thread nD τ) none Set.univ) (Set.mem_univ _) () (O := 0) (W := W) (R := 0) (m := 0) (T := ∅)
      (by rw [expect_recv m c b r hr, Nat.zero_add])) $$ [Hc HO Hat]
  · isplitr; · iapply (inv_recv m K); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c b r hr)) $$ Hpay
  iapply Hk
  isplitl [HO]; · iexists _; iexact HO
  isplitl [Hat]; · iexact Hat
  unfold recvPay; iexact Hp

/-- The wait for the copy `(b, r)` to have been read gives its quarter of the context block back. -/
theorem step_sent (b : Fin 2) (r : Fin 4) (hr : r ≠ 0) {src dst : Memref sig .tc .vmem S256x256 .bf16}
    (hd : dst.view.dmaCredit = N) {h1 : src.view.WordExact} {h2 : dst.view.WordExact}
    {α : Type} {Q : α → sProp 𝕄} {k : PUnit → Prog (TpuEff nD τ sig (Elt F) Λ₀ .tc) α} :
    iprop(records m K ∗ ow c 0 ∗ cred (tallyAt (sendCell c b r) () N) ∗ atPos ER (sendCell c b r) 0 ∅ 0)
      ⊢ iprop((ow c 0 ∗ sent m c b r
            -∗ wpc c (k ⟨⟩) Q)
          -∗ wpc c (.op (.waitDma2 (sS b r) src dst h1 h2) k) Q) := by
  unfold sent
  iintro ⟨#HR, ⟨%W, HO⟩, Hc, Hat⟩ Hk
  iapply (Rounds.wp_wait_rest_token 𝒱₀ ER (rd m) (c : Thread nD τ) none (κ := K (c, kS b r)) (sm := .dma (sS b r)) (k' := N)
      (by rw [← hd]; exact wpE_waitDma2_eq 𝒱₀ (c : Thread nD τ) none Set.univ) (Set.mem_univ _) () (O := 0) (W := W) (R := 0) (m := 0) (T := ∅)
      (by rw [expect_send m c b r hr, Nat.zero_add])) $$ [Hc HO Hat]
  · isplitr; · iapply (inv_send m K); iexact HR
    isplitl [Hc]; · iexact Hc
    isplitl [HO]; · iexact HO
    isplitr; · rw [MayWait_zero]; iempintro
    iexact Hat
  iintro ⟨HO, Hat, -, Hpay⟩
  ihave Hp := (Entails.of_eq (rest_send m c b r hr)) $$ Hpay
  iapply Hk
  isplitl [HO]; · iexists _; iexact HO
  isplitl [Hat]; · iexact Hat
  unfold sendPay; iexact Hp

end Rules

/-! ## Reading and writing the context blocks and the slots -/

section Memory

variable (c : Dev nD)

/-- The context block `b` of device `c`, at any contents. -/
def ctxAny (c : Dev nD) (b : Fin 2) : sProp 𝕄 := ownsSat (c : Thread nD τ) (ctxS b) fullShare (fun _ => True)

omit [FloatOps F] in
/-- A share of a context block is a share of its elements in the context buffer, -/
theorem ctxOwn_eq (c : Dev nD) (b : Fin 2) (q : PosShare TreeShare) (Ψ : (S256x256.Idx → Elt F .bf16) → Prop) :
    (ownsSat (c : Thread nD τ) (ctxS b) q Ψ : sProp 𝕄)
      = iprop(∃ f : (ctxM : Memref sig .tc .vmem S512x256 .bf16).view.ty.Contents (Elt F), ⌜Ψ ((ctxS b).view.read (Elt F) f)⌝
          ∗ (View.loc (c : Thread nD τ) (ctxM : Memref sig .tc .vmem S512x256 .bf16).view) ↦[(ctxS b).view.set]{q} f) := rfl

omit [FloatOps F] in
/-- and a share of a slot a share of its elements in the landing buffer. -/
theorem slotOwn_eq (c : Dev nD) (b : Fin 2) (r : Fin 4) (q : PosShare TreeShare) (Ψ : (S256x256.Idx → Elt F .bf16) → Prop) :
    (ownsSat (c : Thread nD τ) (rsQ b r) q Ψ : sProp 𝕄)
      = iprop(∃ f : (rsM : Memref sig .tc .vmem S2x4x256x256 .bf16).view.ty.Contents (Elt F), ⌜Ψ ((rsQ b r).view.read (Elt F) f)⌝
          ∗ (View.loc (c : Thread nD τ) (rsM : Memref sig .tc .vmem S2x4x256x256 .bf16).view) ↦[(rsQ b r).view.set]{q} f) := rfl

omit [FloatOps F] in
/-- A slot read at its own shape is the block read in it, re-indexed. -/
theorem readAt_slot (b : Fin 2) (r : Fin 4) (f : (rsM : Memref sig .tc .vmem S2x4x256x256 .bf16).view.ty.Contents (Elt F)) :
    (rsM : Memref sig .tc .vmem S2x4x256x256 .bf16).view.readAt (Elt F) (rsR (b, r)).toLoadRect f = up ((rsQ b r).view.read (Elt F) f) := by
  funext j
  show (rsS b r).view.read (Elt F) f j = (rsS b r).view.read (Elt F) f _
  congr 1
  exact ((Equiv.symm_apply_apply (Shape.reshapeEquiv (s := S256x256) (s' := S1x1x256x256) squeezes_S1x1x256x256_S256x256.numel_eq.symm) j)).symm

/-- A load of a landed slot. -/
theorem step_load_slot (b : Fin 2) (r : Fin 4) (off : Fin 4 → Nat) (h : ∀ a, off a + S1x1x256x256.size a ≤ S2x4x256x256.size a)
    (ho : off = ![b.val, r.val, 0, 0]) (X : S256x256.Idx → Elt F .bf16)
    {hl : (rsM : Memref sig .tc .vmem S2x4x256x256 .bf16).view.LoadsAt (Rect.unit (s := S2x4x256x256) off S1x1x256x256.size h).toLoadRect}
    {α : Type} {Q : α → sProp 𝕄} {k : Vec F S1x1x256x256 .bf16 → Prog (TpuEff nD τ sig (Elt F) Λ₀ .tc) α} :
    (slotAt c b r X : sProp 𝕄)
      ⊢ iprop((slotAt c b r X -∗ wpc c (k (up X)) Q)
          -∗ wp frame (wpE (defs₀ (F := F)) 𝒱₀ (c : Thread nD τ) none) Set.univ
            (.op (.load (rsM : Memref sig .tc .vmem S2x4x256x256 .bf16) (Rect.unit (s := S2x4x256x256) off S1x1x256x256.size h).toLoadRect hl) k) Q) := by
  subst ho
  unfold slotAt; rw [owns_eq_ownsSat, slotOwn_eq]
  iintro ⟨%f, %hf, H⟩ Hk
  iapply (wp_load 𝒱₀ (c : Thread nD τ) none Set.univ (m := rsM) (S := (rsQ b r).view.set) (by
    have : (rsQ b r).view.set = (rsM : Memref sig .tc .vmem S2x4x256x256 .bf16).view.setOn (rsR (b, r)).set := by
      exact (View.set_reshape _ _).trans (View.set_slice _ _)
    rw [this]; exact subset_rfl)) $$ H
  iintro H
  rw [show (rsM : Memref sig .tc .vmem S2x4x256x256 .bf16).view.readAt (Elt F) (Rect.unit (s := S2x4x256x256) ![b.val, r.val, 0, 0] S1x1x256x256.size h).toLoadRect f = up X from
    (readAt_slot b r f).trans (congrArg up hf)]
  iapply Hk
  iexists f; isplitr; · ipureintro; exact hf
  iexact H

/-- A load of a context block, at any share. -/
theorem step_load_ctx (b : Fin 2) (off : Fin 2 → Nat) (h : ∀ a, off a + S256x256.size a ≤ S512x256.size a)
    (ho : off = ![256 * b.val, 0]) (q : PosShare TreeShare) (X : S256x256.Idx → Elt F .bf16)
    {hl : (ctxM : Memref sig .tc .vmem S512x256 .bf16).view.LoadsAt (Rect.unit (s := S512x256) off S256x256.size h).toLoadRect}
    {α : Type} {Q : α → sProp 𝕄} {k : Vec F S256x256 .bf16 → Prog (TpuEff nD τ sig (Elt F) Λ₀ .tc) α} :
    (ctxAt c b q X : sProp 𝕄)
      ⊢ iprop((ctxAt c b q X -∗ wpc c (k X) Q)
          -∗ wp frame (wpE (defs₀ (F := F)) 𝒱₀ (c : Thread nD τ) none) Set.univ
            (.op (.load (ctxM : Memref sig .tc .vmem S512x256 .bf16) (Rect.unit (s := S512x256) off S256x256.size h).toLoadRect hl) k) Q) := by
  subst ho
  unfold ctxAt; rw [owns_eq_ownsSat, ctxOwn_eq]
  iintro ⟨%f, %hf, H⟩ Hk
  iapply (wp_load 𝒱₀ (c : Thread nD τ) none Set.univ (m := ctxM) (S := (ctxS b).view.set) (by
    have : (ctxS b).view.set = (ctxM : Memref sig .tc .vmem S512x256 .bf16).view.setOn (ctxR b).set := View.set_slice _ _
    rw [this]; exact subset_rfl)) $$ H
  iintro H
  rw [show (ctxM : Memref sig .tc .vmem S512x256 .bf16).view.readAt (Elt F) (Rect.unit (s := S512x256) ![256 * b.val, 0] S256x256.size h).toLoadRect f = X from hf]
  iapply Hk
  iexists f; isplitr; · ipureintro; exact hf
  iexact H

/-- A load of a context block that does not use what it reads, -/
theorem step_load_ctx_any (b : Fin 2) (off : Fin 2 → Nat) (h : ∀ a, off a + S256x256.size a ≤ S512x256.size a)
    (ho : off = ![256 * b.val, 0])
    {hl : (ctxM : Memref sig .tc .vmem S512x256 .bf16).view.LoadsAt (Rect.unit (s := S512x256) off S256x256.size h).toLoadRect}
    {α : Type} {Q : α → sProp 𝕄} {k : Prog (TpuEff nD τ sig (Elt F) Λ₀ .tc) α} :
    (ctxAny c b : sProp 𝕄)
      ⊢ iprop((ctxAny c b -∗ wpc c k Q)
          -∗ wp frame (wpE (defs₀ (F := F)) 𝒱₀ (c : Thread nD τ) none) Set.univ
            (.op (.load (ctxM : Memref sig .tc .vmem S512x256 .bf16) (Rect.unit (s := S512x256) off S256x256.size h).toLoadRect hl) (fun _ => k)) Q) := by
  subst ho
  unfold ctxAny; rw [ctxOwn_eq]
  iintro ⟨%f, -, H⟩ Hk
  iapply (wp_load 𝒱₀ (c : Thread nD τ) none Set.univ (m := ctxM) (S := (ctxS b).view.set) (by
    have : (ctxS b).view.set = (ctxM : Memref sig .tc .vmem S512x256 .bf16).view.setOn (ctxR b).set := View.set_slice _ _
    rw [this]; exact subset_rfl)) $$ H
  iintro H
  iapply Hk
  iexists f; isplitr; · ipureintro; trivial
  iexact H

/-- and the store of a context block. -/
theorem step_store_ctx (b : Fin 2) (off : Fin 2 → Nat) (h : ∀ a, off a + S256x256.size a ≤ S512x256.size a)
    (ho : off = ![256 * b.val, 0]) (w : Vec F S256x256 .bf16)
    {hs : ((ctxM : Memref sig .tc .vmem S512x256 .bf16).access (Rect.unit (s := S512x256) off S256x256.size h)).Stores Finset.univ} {ht}
    {α : Type} {Q : α → sProp 𝕄} {k : PUnit → Prog (TpuEff nD τ sig (Elt F) Λ₀ .tc) α} :
    (ctxAny c b : sProp 𝕄)
      ⊢ iprop((ctxAt c b fullShare w -∗ wpc c (k ⟨⟩) Q)
          -∗ wp frame (wpE (defs₀ (F := F)) 𝒱₀ (c : Thread nD τ) none) Set.univ
            (.op (.store (ctxM : Memref sig .tc .vmem S512x256 .bf16) (Rect.unit (s := S512x256) off S256x256.size h) w Finset.univ hs ht) k) Q) := by
  subst ho
  unfold ctxAny ctxAt; rw [owns_eq_ownsSat, ctxOwn_eq, ctxOwn_eq]
  iintro ⟨%f, -, H⟩ Hk
  iapply (wp_store 𝒱₀ (c : Thread nD τ) none Set.univ (m := ctxM) (r := Rect.unit (s := S512x256) ![256 * b.val, 0] S256x256.size h) (Mk := Finset.univ)
    (S := (ctxS b).view.set) (by exact subset_rfl)) $$ H
  iintro H
  iapply Hk
  iexists ((ctxS b).view.write (Elt F) f w Finset.univ); isplitr; · ipureintro; exact View.read_write_univ _ _
  iexact H

end Memory

end Cert.AttnProof

end
-- ==== Proof.Buffers.lean ====
/-
# The buffers between the kernel's parts

What the parts of the kernel's body hold besides the semaphores: the staged inputs, the output projection in its working
format, and whole loads and stores.
-/
module

public import proofs.«01_k».proof.Proof.Steps

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- The four staged inputs of the attention, unchanged throughout. -/
def inputs (c : Dev nD) : sProp 𝕄 :=
  iprop(((c : Thread nD τ).loc cc0_stg0_0 ↦{fullShare} xA m c) ∗ ((c : Thread nD τ).loc cc0_stg1_0 ↦{fullShare} wqA m c)
    ∗ ((c : Thread nD τ).loc cc0_stg2_0 ↦{fullShare} kA m c) ∗ ((c : Thread nD τ).loc cc0_stg3_0 ↦{fullShare} vA m c))

/-- The output projection in its working format. -/
def wob (c : Dev nD) : sProp 𝕄 := iprop((c : Thread nD τ).loc cc0_scratch2 ↦{fullShare} wobV m c)

/-- A context block counts the same on a semaphore as a slot. -/
theorem ctx_credit (b : Fin 2) : (ctxS b).view.dmaCredit = N := rfl

/-- A rectangle at the origin has its origin at zero. -/
theorem origin2 : (![0, 0] : Fin 2 → Nat) = fun _ => 0 := by funext i; revert i; decide

omit [FloatOps F] in
/-- A load of the whole of the output projection reads it. -/
theorem read_wo (f : (cc0_stg4_0 : Ref sig .tc).ty.Contents (Elt F)) :
    (woM : Memref sig .tc .vmem S1024x512 .f32).view.readAt (Elt F) (Rect.unit (s := S1024x512) ![0, 0] S1024x512.size inb_S1024x512_S1024x512_0_0).toLoadRect f = f :=
  Memref.readAt_unit_zero (Elt F) cc0_stg4_0 origin2 _ _

omit [FloatOps F] in
/-- A store over the whole of the working copy leaves what was stored. -/
theorem write_wob (f w : (cc0_scratch2 : Ref sig .tc).ty.Contents (Elt F)) :
    ((wobM : Memref sig .tc .vmem S1024x512 .bf16).access (Rect.unit (s := S1024x512) ![0, 0] S1024x512.size inb_S1024x512_S1024x512_0_0) : View sig .tc _ _ _).write (Elt F) f w Finset.univ = w :=
  Memref.write_access_unit_zero_univ (Elt F) cc0_scratch2 origin2 _ f w

omit [FloatOps F] in
/-- A context block whose contents are known, forgotten. -/
theorem ctxAny_of (c : Dev nD) (b : Fin 2) (X : S256x256.Idx → Elt F .bf16) : (ctxAt c b fullShare X : sProp 𝕄) ⊢ ctxAny c b := by
  unfold ctxAt ctxAny; rw [owns_eq_ownsSat]; exact ownsSat_mono _ _ _ (fun _ _ => trivial)

omit [FloatOps F] in
/-- A slot whose contents are known, forgotten. -/
theorem slotAny_of (c : Dev nD) (b : Fin 2) (r : Fin 4) (X : S256x256.Idx → Elt F .bf16) : (slotAt c b r X : sProp 𝕄) ⊢ slotAny c b r := by
  unfold slotAt slotAny; rw [owns_eq_ownsSat]; exact ownsSat_mono _ _ _ (fun _ _ => trivial)

end Cert.AttnProof

end
-- ==== Proof.BodyA.lean ====
/-
# The body's parts up to the barrier wait

Each part of the kernel's body with the resources it uses and what it leaves: the signals, the loads, the first context and
its store, and the barrier wait.
-/
module

public import proofs.«01_k».proof.Proof.Buffers

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- Part 1: the three barrier signals, and the device's columns of the query projection. -/
theorem part1 {Q} :
    iprop(records m K ∗ ow c (owB c [1, 2, 3]) ∗ sigRes c 1 ∗ sigRes c 2 ∗ sigRes c 3 ∗ inputs m c)
      ⊢ iprop((ow c (owS c copies) ∗ inputs m c -∗ Q ⟨c, Scalar.remsi (Scalar.divsi (Dev.word c) 1#32) 4#32, SemArray.scalar (sig.barrier 0 rfl), wqV m c,
            iota .tc S256x256 32 [0] iota_S256x256_d0_w32, 64#32, k0_pay2, k0_pay3, Scalar.extui (Scalar.cmpi .sgt 64#32 0#32), 0#32⟩)
          -∗ wpc c (k0_part1 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4) Q) := by
  simp only [k0_part1_eq_skeleton]
  unfold k0_part1_skel inputs wqV
  simp only [semSignalWord, Prog.lift, Prog.bind_op, Prog.bind_ret, Prog.pure_eq_ret, wp_deviceId, dev1_eq, dev2_eq, dev3_eq]
  iintro ⟨#HR, HO, H1, H2, H3, Hx, Hwq, Hk, Hv⟩ HQ
  iapply (step_signal m K c 1 (by decide) _ rfl [2, 3]) $$ [HO H1]
  · isplitr; · iexact HR
    isplitl [HO] <;> iassumption
  iintro HO
  iapply (step_signal m K c 2 (by decide) _ rfl [3]) $$ [HO H2]
  · isplitr; · iexact HR
    isplitl [HO] <;> iassumption
  iintro HO
  iapply (step_signal m K c 3 (by decide) _ rfl []) $$ [HO H3]
  · isplitr; · iexact HR
    isplitl [HO] <;> iassumption
  iintro HO
  iapply (wp_load 𝒱₀ (c : Thread nD τ) none Set.univ (m := wqM) (Finset.subset_univ _)) $$ Hwq; iintro Hwq
  simp only [wpc, wp_ret]; imodintro
  iapply HQ
  isplitl [HO]; · iexact HO
  isplitl [Hx]; · iexact Hx
  isplitl [Hwq]; · iexact Hwq
  isplitl [Hk]; · iexact Hk
  iexact Hv

/-- Part 2 computes on words and masks only. -/
theorem part2 (v20 : IVec S256x256 32) (c64 : BitVec 32) (v22 v29 : IVec S256x256 32) (v31 c0 : BitVec 32) {Q} :
    (Q ⟨k0_pay4 v20 c64 v22 v29 v31 c0, k0_pay6 v20 c64 v22 v29 v31 c0, Scalar.select (Scalar.cmpi .eq 4#32 0#32) 1#32 4#32, k0_pay7, k0_pay8, k0_pay9⟩ : sProp 𝕄)
      ⊢ wpc c (k0_part2 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 v20 c64 v22 v29 v31 c0) Q := by
  simp only [k0_part2_eq_skeleton]
  unfold k0_part2_skel
  simp only [Prog.pure_eq_ret]
  simp only [wpc, wp_ret]
  iintro HQ; imodintro; iexact HQ

/-- Part 3: the mask, and the first batch entry's queries and first keys. -/
theorem part3 (v19 : FVec F S512x256 .f32) (v44 : IVec S256x256 32) (v70 : IVec S256x256 1) (v72 : BitVec 32) (v74 : IVec S256x256 32) (v76 : IVec S256x256 1) (v77 : IVec S256x256 32) {Q} :
    inputs m c ⊢ iprop((inputs m c -∗ Q ⟨k0_pay10 v44 v70 v72 v74 v76 v77, k0_pay11 v19 (x0V m c), k0_pay12 v19 (x0V m c), k0_pay13 (ldK ![0, 0, 0, 0] inb_S2x256x4x64_S1x256x1x64_0_0_0_0 (kA m c))⟩)
          -∗ wpc c (k0_part3 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 v19 v44 v70 v72 v74 v76 v77) Q) := by
  simp only [k0_part3_eq_skeleton]
  unfold k0_part3_skel inputs
  simp only [Prog.lift, Prog.bind_op, Prog.bind_ret, Prog.pure_eq_ret]
  iintro ⟨Hx, Hwq, Hk, Hv⟩ HQ
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hk; iintro Hk
  simp only [wpc, wp_ret]; imodintro
  iapply HQ
  isplitl [Hx]; · iexact Hx
  isplitl [Hwq]; · iexact Hwq
  isplitl [Hk]; · iexact Hk
  iexact Hv

/-- Part 4: the first two heads of the first batch entry, and the third's weights. -/
theorem part4 (v107 v112 : FVec F S256x256 .f32) (v113 v115 : FVec F S256x64 .f32) {Q} :
    inputs m c ⊢ iprop((inputs m c -∗ Q ⟨k0_pay14 v107 v113 v115 (ldV ![0, 0, 0, 0] inb_S2x256x4x64_S1x256x1x64_0_0_0_0 (vA m c)), k0_pay15 v107 v112 (ldK ![0, 0, 1, 0] inb_S2x256x4x64_S1x256x1x64_0_0_1_0 (kA m c)) (ldV ![0, 0, 1, 0] inb_S2x256x4x64_S1x256x1x64_0_0_1_0 (vA m c)), k0_pay16 (ldV ![0, 0, 2, 0] inb_S2x256x4x64_S1x256x1x64_0_0_2_0 (vA m c)), k0_pay17 v107 v112 (ldK ![0, 0, 2, 0] inb_S2x256x4x64_S1x256x1x64_0_0_2_0 (kA m c))⟩)
          -∗ wpc c (k0_part4 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 v107 v112 v113 v115) Q) := by
  simp only [k0_part4_eq_skeleton]
  unfold k0_part4_skel inputs
  simp only [Prog.lift, Prog.bind_op, Prog.bind_ret, Prog.pure_eq_ret]
  iintro ⟨Hx, Hwq, Hk, Hv⟩ HQ
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  simp only [wpc, wp_ret]; imodintro
  iapply HQ
  isplitl [Hx]; · iexact Hx
  isplitl [Hwq]; · iexact Hwq
  isplitl [Hk]; · iexact Hk
  iexact Hv

/-- Part 5: the last head of the first context, its store, and the barrier wait. -/
theorem part5 (v2 : BitVec 32) {v107 v112 : FVec F S256x256 .f32} {v127 v142 v147 : FVec F S256x64 .f32} {v150 : FVec F S256x256 .f32}
    (h : k0_pay18 v107 v112 v127 v142 v147 v150 (ldK ![0, 0, 3, 0] inb_S2x256x4x64_S1x256x1x64_0_0_3_0 (kA m c)) (ldV ![0, 0, 3, 0] inb_S2x256x4x64_S1x256x1x64_0_0_3_0 (vA m c)) = ctx0 m c) {Q} :
    iprop(records m K ∗ levAts L lv ∗ ow c (owS c copies) ∗ cred (tallyAt (barCell c) () 3) ∗ atPos ER (barCell c) 0 ∅ 0 ∗ inputs m c ∗ ctxAny c 0)
      ⊢ iprop((ow c (owS c copies) ∗ atPos ER (barCell c) 1 ∅ 0 ∗ inputs m c ∗ ctxAt c 0 fullShare (ctxB m 0 c) ∗ barPay c 1 ∗ barPay c 2 ∗ barPay c 3
            -∗ Q ⟨Scalar.remsi (Scalar.addi v2 2#32) 4#32, Scalar.muli (Scalar.remsi (Scalar.addi v2 2#32) 4#32) 1#32⟩)
          -∗ wpc c (k0_part5 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 v2 (SemArray.scalar (sig.barrier 0 rfl)) v107 v112 v127 v142 v147 v150) Q) := by
  simp only [k0_part5_eq_skeleton]
  unfold k0_part5_skel inputs
  simp only [semWaitWord, Prog.lift, Prog.bind_op, Prog.bind_ret, Prog.pure_eq_ret]
  iintro ⟨#HR, #Hlev, HO, Hc, Hat, ⟨Hx, Hwq, Hk, Hv⟩, Hctx⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (step_load_ctx_any c 0 _ _ rfl) $$ Hctx; iintro Hctx
  iapply (step_store_ctx c 0 _ _ rfl) $$ Hctx; iintro Hctx
  iapply (step_barrier m K c copies) $$ [HO Hc Hat]
  · isplitr; · iexact HR
    isplitr; · iexact Hlev
    isplitl [Hc]; · iexact Hc
    isplitl [HO] <;> iassumption
  iintro ⟨HO, Hat, Hp1, Hp2, Hp3⟩
  simp only [wpc, wp_ret]; imodintro
  iapply HQ
  isplitl [HO]; · iexact HO
  isplitl [Hat]; · iexact Hat
  isplitl [Hx Hwq Hk Hv]
  · isplitl [Hx]; · iexact Hx
    isplitl [Hwq]; · iexact Hwq
    isplitl [Hk] <;> iassumption
  isplitl [Hctx]
  · rw [show ctxB m 0 c = ctx0 m c from rfl, ← h]; iexact Hctx
  isplitl [Hp1]; · iexact Hp1
  isplitl [Hp2]; · iexact Hp2
  iexact Hp3

end Cert.AttnProof

end
-- ==== Proof.BodyB.lean ====
/-
# The body's parts from the first copy to the last

The copies of the two contexts to the three other devices, with the computation of the second context between them, and the
output projection's conversion to its working format.
-/
module

public import proofs.«01_k».proof.Proof.Buffers

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- Part 6: the first context goes to the devices at distances 2 and 1. -/
theorem part6 (v2 v180 : BitVec 32) {Q} :
    iprop(records m K ∗ ow c (owS c copies) ∗ sendRes m c 0 2 ∗ sendRes m c 0 1)
      ⊢ iprop((ow c (owS c [(0, 3), (1, 2), (1, 1), (1, 3)]) ∗ cred (tallyAt (sendCell c 0 2) () N) ∗ cred (tallyAt (sendCell c 0 1) () N)
            -∗ Q ⟨Scalar.remsi (Scalar.addi v2 1#32) 4#32, Scalar.remsi (Scalar.addi v2 3#32) 4#32⟩)
          -∗ wpc c (k0_part6 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v2 v180) Q) := by
  simp only [k0_part6_eq_skeleton]
  unfold k0_part6_skel copies
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H2, H1⟩ HQ
  iapply (step_copy m K c 0 2 (by decide) _ (dev4_eq c) [(0, 1), (0, 3), (1, 2), (1, 1), (1, 3)] ctx_at0 slot_02 snd_02 rcv_02) $$ [HO H2]
  · isplitr; · iexact HR
    isplitl [HO] <;> iassumption
  iintro ⟨Hc2, HO⟩
  iapply (step_copy m K c 0 1 (by decide) _ (dev5_eq c) [(0, 3), (1, 2), (1, 1), (1, 3)] ctx_at0 slot_01 snd_01 rcv_01) $$ [HO H1]
  · isplitr; · iexact HR
    isplitl [HO] <;> iassumption
  iintro ⟨Hc1, HO⟩
  simp only [wpc, wp_ret]; imodintro
  iapply HQ
  isplitl [HO]; · iexact HO
  isplitl [Hc2]; · iexact Hc2
  iexact Hc1

/-- Part 7: the first context goes to the device at distance 3; the first head of the second context, and the second's weights. -/
theorem part7 (v19 : FVec F S512x256 .f32) (v107 : FVec F S256x256 .f32) {Q} :
    iprop(records m K ∗ ow c (owS c [(0, 3), (1, 2), (1, 1), (1, 3)]) ∗ sendRes m c 0 3 ∗ inputs m c)
      ⊢ iprop((ow c (owS c [(1, 2), (1, 1), (1, 3)]) ∗ cred (tallyAt (sendCell c 0 3) () N) ∗ inputs m c
            -∗ Q ⟨k0_pay19 v19 (x1V m c), k0_pay20 v19 v107 (x1V m c) (ldK ![1, 0, 0, 0] inb_S2x256x4x64_S1x256x1x64_1_0_0_0 (kA m c)) (ldV ![1, 0, 0, 0] inb_S2x256x4x64_S1x256x1x64_1_0_0_0 (vA m c)), k0_pay21 (ldV ![1, 0, 1, 0] inb_S2x256x4x64_S1x256x1x64_1_0_1_0 (vA m c)), k0_pay22 v19 v107 (x1V m c) (ldK ![1, 0, 1, 0] inb_S2x256x4x64_S1x256x1x64_1_0_1_0 (kA m c))⟩)
          -∗ wpc c (k0_part7 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v19 v107) Q) := by
  simp only [k0_part7_eq_skeleton]
  unfold k0_part7_skel inputs
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H3, Hx, Hwq, Hk, Hv⟩ HQ
  iapply (step_copy m K c 0 3 (by decide) _ (dev6_eq c) [(1, 2), (1, 1), (1, 3)] ctx_at0 slot_03 snd_03 rcv_03) $$ [HO H3]
  · isplitr; · iexact HR
    isplitl [HO] <;> iassumption
  iintro ⟨Hc3, HO⟩
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  simp only [wpc, wp_ret]; imodintro
  iapply HQ
  isplitl [HO]; · iexact HO
  isplitl [Hc3]; · iexact Hc3
  isplitl [Hx]; · iexact Hx
  isplitl [Hwq]; · iexact Hwq
  isplitl [Hk]; · iexact Hk
  iexact Hv

/-- Part 8: the third head of the second context, and the fourth's weights. -/
theorem part8 (v107 v215 : FVec F S256x256 .f32) (v235 : FVec F S256x64 .f32) (v238 : FVec F S256x256 .f32) {Q} :
    inputs m c ⊢ iprop((inputs m c -∗ Q ⟨k0_pay23 v235 v238, k0_pay24 v107 v215 (ldK ![1, 0, 2, 0] inb_S2x256x4x64_S1x256x1x64_1_0_2_0 (kA m c)) (ldV ![1, 0, 2, 0] inb_S2x256x4x64_S1x256x1x64_1_0_2_0 (vA m c)), k0_pay25 (ldV ![1, 0, 3, 0] inb_S2x256x4x64_S1x256x1x64_1_0_3_0 (vA m c)), k0_pay26 v107 v215 (ldK ![1, 0, 3, 0] inb_S2x256x4x64_S1x256x1x64_1_0_3_0 (kA m c)), k0_pay27 v107 v215 (ldK ![1, 0, 3, 0] inb_S2x256x4x64_S1x256x1x64_1_0_3_0 (kA m c))⟩)
          -∗ wpc c (k0_part8 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 v107 v215 v235 v238) Q) := by
  simp only [k0_part8_eq_skeleton]
  unfold k0_part8_skel inputs
  simp only [Prog.lift, Prog.bind_op, Prog.bind_ret, Prog.pure_eq_ret]
  iintro ⟨Hx, Hwq, Hk, Hv⟩ HQ
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  simp only [wpc, wp_ret]; imodintro
  iapply HQ
  isplitl [Hx]; · iexact Hx
  isplitl [Hwq]; · iexact Hwq
  isplitl [Hk]; · iexact Hk
  iexact Hv

/-- Part 9: the second context's store, and its copy to the device at distance 2; the other quarters stay. -/
theorem part9 (v2 : BitVec 32) {v230 v245 v260 v265 : FVec F S256x64 .f32} {v268 : FVec F S256x256 .f32} {v272 : FVec F S256x1 .f32}
    (h : k0_pay28 v230 v245 v260 v265 v268 v272 = ctx1 m c) {Q} :
    iprop(records m K ∗ ow c (owS c [(1, 2), (1, 1), (1, 3)]) ∗ ctxAny c 1 ∗ copyToks c 1 2 ∗ slotAny (sh 2 c) 1 2)
      ⊢ iprop((ow c (owS c [(1, 1), (1, 3)]) ∗ cred (tallyAt (sendCell c 1 2) () N)
              ∗ ctxAt c 1 (qs 0) (ctxB m 1 c) ∗ ctxAt c 1 (qs 1) (ctxB m 1 c) ∗ ctxAt c 1 (qs 3) (ctxB m 1 c)
            -∗ Q ⟨Scalar.remsi (Scalar.addi v2 2#32) 4#32, Scalar.remsi (Scalar.addi v2 1#32) 4#32⟩)
          -∗ wpc c (k0_part9 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v2 v230 v245 v260 v265 v268 v272) Q) := by
  simp only [k0_part9_eq_skeleton]
  unfold k0_part9_skel
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, Hctx, Ht, Hs⟩ HQ
  iapply (step_load_ctx_any c 1 _ _ rfl) $$ Hctx; iintro Hctx
  iapply (step_store_ctx c 1 _ _ rfl) $$ Hctx
  rw [h, show ctx1 m c = ctxB m 1 c from rfl]
  iintro Hctx
  ihave Hq := (ctx_quarters c 1 (ctxB m 1 c)).1 $$ Hctx
  icases Hq with ⟨⟨H0, H1⟩, H2, H3⟩
  iapply (step_copy m K c 1 2 (by decide) _ (dev7_eq c) [(1, 1), (1, 3)] ctx_at1 slot_12 snd_12 rcv_12) $$ [HO Ht Hs H2]
  · unfold sendRes
    isplitr; · iexact HR
    isplitl [HO]; · iexact HO
    isplitl [Ht]; · iexact Ht
    isplitl [H2] <;> iassumption
  iintro ⟨Hc, HO⟩
  simp only [wpc, wp_ret]; imodintro
  iapply HQ
  isplitl [HO]; · iexact HO
  isplitl [Hc]; · iexact Hc
  isplitl [H0]; · iexact H0
  isplitl [H1]; · iexact H1
  iexact H3

/-- Part 10: the second context's other two copies; the output projection in its working format; the device's own product. -/
theorem part10 (v2 v190 : BitVec 32) {Q} :
    iprop(records m K ∗ ow c (owS c [(1, 1), (1, 3)]) ∗ sendRes m c 1 1 ∗ sendRes m c 1 3 ∗ ((c : Thread nD τ).loc cc0_stg4_0 ↦{fullShare} woA m c)
        ∗ (∃ f, (c : Thread nD τ).loc cc0_scratch2 ↦{fullShare} f) ∗ ctxAt c 0 (qs 0) (ctxB m 0 c))
      ⊢ iprop((ow c 0 ∗ cred (tallyAt (sendCell c 1 1) () N) ∗ cred (tallyAt (sendCell c 1 3) () N) ∗ ((c : Thread nD τ).loc cc0_stg4_0 ↦{fullShare} woA m c)
              ∗ wob m c ∗ ctxAt c 0 (qs 0) (ctxB m 0 c)
            -∗ Q ⟨Scalar.remsi (Scalar.addi v2 3#32) 4#32, woMine m c, k0_pay30 (woMine m c) (ctxB m 0 c), Scalar.muli v190 1#32, 0#32⟩)
          -∗ wpc c (k0_part10 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v2 v190) Q) := by
  simp only [k0_part10_eq_skeleton]
  unfold k0_part10_skel wob
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H1, H3, Hwo, ⟨%f, Hw⟩, Hctx⟩ HQ
  iapply (step_copy m K c 1 1 (by decide) _ (dev8_eq c) [(1, 3)] ctx_at1 slot_11 snd_11 rcv_11) $$ [HO H1]
  · isplitr; · iexact HR
    isplitl [HO] <;> iassumption
  iintro ⟨Hc1, HO⟩
  iapply (step_copy m K c 1 3 (by decide) _ (dev9_eq c) [] ctx_at1 slot_13 snd_13 rcv_13) $$ [HO H3]
  · isplitr; · iexact HR
    isplitl [HO] <;> iassumption
  iintro ⟨Hc3, HO⟩
  iapply (wp_load 𝒱₀ (c : Thread nD τ) none Set.univ (m := woM) (Finset.subset_univ _)) $$ Hwo; iintro Hwo
  rw [read_wo]
  iapply (wp_load 𝒱₀ (c : Thread nD τ) none Set.univ (m := wobM) (Finset.subset_univ _)) $$ Hw; iintro Hw
  iapply (wp_store 𝒱₀ (c : Thread nD τ) none Set.univ (m := wobM) (r := Rect.unit (s := S1024x512) ![0, 0] S1024x512.size inb_S1024x512_S1024x512_0_0)
    (Mk := Finset.univ) (Finset.subset_univ _)) $$ Hw
  rw [write_wob, show k0_pay29 (woA m c) = wobV m c from rfl]
  iintro Hw
  iapply (wp_load 𝒱₀ (c : Thread nD τ) none Set.univ (m := wobM) (Finset.subset_univ _)) $$ Hw; iintro Hw
  iapply (step_load_ctx c 0 _ _ rfl (qs 0) (ctxB m 0 c)) $$ Hctx; iintro Hctx
  simp only [wpc, wp_ret]; imodintro
  iapply HQ
  isplitl [HO]; · iexact HO
  isplitl [Hc1]; · iexact Hc1
  isplitl [Hc3]; · iexact Hc3
  isplitl [Hwo]; · iexact Hwo
  isplitl [Hw]; · iexact Hw
  iexact Hctx

end Cert.AttnProof

end
-- ==== Proof.BodyC.lean ====
/-
# The body's parts that sum the products

The waits for the landings, the products of what landed, the stores of the two output blocks, and the first waits for the copies
to have been read.
-/
module

public import proofs.«01_k».proof.Proof.Buffers

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- Part 11: the landings from the devices 1 and 3 places down, and the first of their products. -/
theorem part11 (v2 v201 : BitVec 32) (v324 : FVec F S256x512 .f32) (v325 w0 : BitVec 32) {Q} :
    iprop(records m K ∗ ow c 0 ∗ recvRes c 0 1 ∗ recvRes c 0 3 ∗ wob m c)
      ⊢ iprop((ow c 0 ∗ recvd m c 0 1 ∗ recvd m c 0 3 ∗ wob m c -∗ Q (k0_pay31 v324 (wo1 m c) (got m 0 1 c)))
          -∗ wpc c (k0_part11 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v2 v201 v324 v325 w0) Q) := by
  simp only [k0_part11_eq_skeleton]
  unfold k0_part11_skel wob recvd
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H1, H3, Hw⟩ HQ
  iapply (step_landed m K c 0 1 (by decide) (credit_eq 0 1)) $$ [HO H1]
  · isplitr; · iexact HR
    isplitl [HO] <;> iassumption
  unfold recvd
  iintro ⟨HO, Hp1, H1⟩
  iapply (wp_load 𝒱₀ (c : Thread nD τ) none Set.univ (m := wobM) (Finset.subset_univ _)) $$ Hw; iintro Hw
  iapply (step_load_slot c 0 1 _ _ rfl) $$ H1; iintro H1
  iapply (step_landed m K c 0 3 (by decide) (credit_eq 0 3)) $$ [HO H3]
  · isplitr; · iexact HR
    isplitl [HO] <;> iassumption
  unfold recvd
  iintro ⟨HO, Hp3, H3⟩
  simp only [wpc, wp_ret]; imodintro
  iapply HQ
  isplitl [HO]; · iexact HO
  isplitl [Hp1 H1]; · isplitl [Hp1] <;> iassumption
  isplitl [Hp3 H3]; · isplitl [Hp3] <;> iassumption
  iexact Hw

/-- Part 12: the landing from the device 2 places down, the last two products, and the first output block's store. -/
theorem part12 (v2 v179 : BitVec 32) (v341 : FVec F S256x512 .f32) (f : (cc0_stg5_0 : Ref sig .tc).ty.Contents (Elt F)) {Q} :
    iprop(records m K ∗ ow c 0 ∗ recvRes c 0 2 ∗ recvd m c 0 3 ∗ wob m c ∗ ((c : Thread nD τ).loc cc0_stg5_0 ↦{fullShare} f))
      ⊢ iprop((ow c 0 ∗ recvd m c 0 2 ∗ recvd m c 0 3 ∗ wob m c
              ∗ ((c : Thread nD τ).loc cc0_stg5_0 ↦{fullShare} ((oM : Memref sig .tc .vmem S2x256x512 .f32).access (Rect.unit (s := S2x256x512) ![0, 0, 0] S1x256x512.size inb_S2x256x512_S1x256x512_0_0_0)).write (Elt F) f
                  (k0_pay32 v341 (wo3 m c) (got m 0 3 c) (wo2 m c) (got m 0 2 c)) Finset.univ)
            -∗ Q ⟨⟩)
          -∗ wpc c (k0_part12 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v2 v179 v341) Q) := by
  simp only [k0_part12_eq_skeleton]
  unfold k0_part12_skel wob recvd
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H2, ⟨Hp3, H3⟩, Hw, Ho⟩ HQ
  iapply (wp_load 𝒱₀ (c : Thread nD τ) none Set.univ (m := wobM) (Finset.subset_univ _)) $$ Hw; iintro Hw
  iapply (step_load_slot c 0 3 _ _ rfl) $$ H3; iintro H3
  iapply (step_landed m K c 0 2 (by decide) (credit_eq 0 2)) $$ [HO H2]
  · isplitr; · iexact HR
    isplitl [HO] <;> iassumption
  unfold recvd
  iintro ⟨HO, Hp2, H2⟩
  iapply (wp_load 𝒱₀ (c : Thread nD τ) none Set.univ (m := wobM) (Finset.subset_univ _)) $$ Hw; iintro Hw
  iapply (step_load_slot c 0 2 _ _ rfl) $$ H2; iintro H2
  iapply (wp_load 𝒱₀ (c : Thread nD τ) none Set.univ (m := oM) (Finset.subset_univ _)) $$ Ho; iintro Ho
  iapply (wp_store 𝒱₀ (c : Thread nD τ) none Set.univ (m := oM) (r := Rect.unit (s := S2x256x512) ![0, 0, 0] S1x256x512.size inb_S2x256x512_S1x256x512_0_0_0)
    (Mk := Finset.univ) (Finset.subset_univ _)) $$ Ho; iintro Ho
  simp only [wpc, wp_ret]; imodintro
  iapply HQ
  isplitl [HO]; · iexact HO
  isplitl [Hp2 H2]; · isplitl [Hp2] <;> iassumption
  isplitl [Hp3 H3]; · isplitl [Hp3] <;> iassumption
  isplitl [Hw]; · iexact Hw
  iexact Ho

/-- Part 13: the second context's own product, the landing from 1 place down and its product. -/
theorem part13 (v2 v293 v304 : BitVec 32) (v322 : Vec F S256x512 .bf16) {Q} :
    iprop(records m K ∗ ow c 0 ∗ recvRes c 1 1 ∗ wob m c ∗ ctxAt c 1 (qs 0) (ctxB m 1 c))
      ⊢ iprop((ow c 0 ∗ recvd m c 1 1 ∗ wob m c ∗ ctxAt c 1 (qs 0) (ctxB m 1 c) -∗ Q (k0_pay33 v322 (ctxB m 1 c) (wo1 m c) (got m 1 1 c)))
          -∗ wpc c (k0_part13 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v2 v293 v304 v322) Q) := by
  simp only [k0_part13_eq_skeleton]
  unfold k0_part13_skel wob recvd
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H1, Hw, Hctx⟩ HQ
  iapply (step_load_ctx c 1 _ _ rfl (qs 0) (ctxB m 1 c)) $$ Hctx; iintro Hctx
  iapply (step_landed m K c 1 1 (by decide) (credit_eq 1 1)) $$ [HO H1]
  · isplitr; · iexact HR
    isplitl [HO] <;> iassumption
  unfold recvd
  iintro ⟨HO, Hp1, H1⟩
  iapply (wp_load 𝒱₀ (c : Thread nD τ) none Set.univ (m := wobM) (Finset.subset_univ _)) $$ Hw; iintro Hw
  iapply (step_load_slot c 1 1 _ _ rfl) $$ H1; iintro H1
  simp only [wpc, wp_ret]; imodintro
  iapply HQ
  isplitl [HO]; · iexact HO
  isplitl [Hp1 H1]; · isplitl [Hp1] <;> iassumption
  isplitl [Hw]; · iexact Hw
  iexact Hctx

/-- Part 14: the landings from 3 and 2 places down, and the first's product. -/
theorem part14 (v2 v282 : BitVec 32) (v397 : FVec F S256x512 .f32) {Q} :
    iprop(records m K ∗ ow c 0 ∗ recvRes c 1 3 ∗ recvRes c 1 2 ∗ wob m c)
      ⊢ iprop((ow c 0 ∗ recvd m c 1 3 ∗ recvd m c 1 2 ∗ wob m c -∗ Q ⟨k0_pay34 v397 (wo3 m c) (got m 1 3 c), wo2 m c, k0_pay35 (got m 1 2 c)⟩)
          -∗ wpc c (k0_part14 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 c v2 v282 v397) Q) := by
  simp only [k0_part14_eq_skeleton]
  unfold k0_part14_skel wob recvd
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H3, H2, Hw⟩ HQ
  iapply (step_landed m K c 1 3 (by decide) (credit_eq 1 3)) $$ [HO H3]
  · isplitr; · iexact HR
    isplitl [HO] <;> iassumption
  unfold recvd
  iintro ⟨HO, Hp3, H3⟩
  iapply (wp_load 𝒱₀ (c : Thread nD τ) none Set.univ (m := wobM) (Finset.subset_univ _)) $$ Hw; iintro Hw
  iapply (step_load_slot c 1 3 _ _ rfl) $$ H3; iintro H3
  iapply (step_landed m K c 1 2 (by decide) (credit_eq 1 2)) $$ [HO H2]
  · isplitr; · iexact HR
    isplitl [HO] <;> iassumption
  unfold recvd
  iintro ⟨HO, Hp2, H2⟩
  iapply (wp_load 𝒱₀ (c : Thread nD τ) none Set.univ (m := wobM) (Finset.subset_univ _)) $$ Hw; iintro Hw
  iapply (step_load_slot c 1 2 _ _ rfl) $$ H2; iintro H2
  simp only [wpc, wp_ret]; imodintro
  iapply HQ
  isplitl [HO]; · iexact HO
  isplitl [Hp3 H3]; · isplitl [Hp3] <;> iassumption
  isplitl [Hp2 H2]; · isplitl [Hp2] <;> iassumption
  iexact Hw

/-- What the wait for a copy to have been read takes. -/
def sentRes (c : Dev nD) (b : Fin 2) (r : Fin 4) : sProp 𝕄 := iprop(cred (tallyAt (sendCell c b r) () N) ∗ atPos ER (sendCell c b r) 0 ∅ 0)

/-- Part 15: the second output block's store, and two waits for copies to have been read. -/
theorem part15 (v414 : FVec F S256x512 .f32) (v427 : Vec F S256x512 .bf16) (v429 : FVec F S256x256 .bf16) (f : (cc0_stg5_0 : Ref sig .tc).ty.Contents (Elt F)) {Q} :
    iprop(records m K ∗ ow c 0 ∗ sentRes c 0 1 ∗ sentRes c 0 2 ∗ ((c : Thread nD τ).loc cc0_stg5_0 ↦{fullShare} f))
      ⊢ iprop((ow c 0 ∗ sent m c 0 1 ∗ sent m c 0 2
              ∗ ((c : Thread nD τ).loc cc0_stg5_0 ↦{fullShare} ((oM : Memref sig .tc .vmem S2x256x512 .f32).access (Rect.unit (s := S2x256x512) ![1, 0, 0] S1x256x512.size inb_S2x256x512_S1x256x512_1_0_0)).write (Elt F) f
                  (k0_pay36 v414 v427 v429) Finset.univ)
            -∗ Q ⟨⟩)
          -∗ wpc c (k0_part15 (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4 v414 v427 v429) Q) := by
  simp only [k0_part15_eq_skeleton]
  unfold k0_part15_skel sentRes
  simp only [semSignalWord, semWaitWord, Prog.lift, Prog.bind_op, Prog.bind_ret, Prog.pure_eq_ret, wp_deviceId, ctx_at0, ctx_at1, slot_01, slot_02, slot_03,
    slot_11, slot_12, slot_13, snd_01, snd_02, snd_03, snd_11, snd_12, snd_13, rcv_01, rcv_02, rcv_03, rcv_11, rcv_12, rcv_13]
  iintro ⟨#HR, HO, H1, H2, Ho⟩ HQ
  iapply (wp_load 𝒱₀ (c : Thread nD τ) none Set.univ (m := oM) (Finset.subset_univ _)) $$ Ho; iintro Ho
  iapply (wp_store 𝒱₀ (c : Thread nD τ) none Set.univ (m := oM) (r := Rect.unit (s := S2x256x512) ![1, 0, 0] S1x256x512.size inb_S2x256x512_S1x256x512_1_0_0)
    (Mk := Finset.univ) (Finset.subset_univ _)) $$ Ho; iintro Ho
  iapply (step_sent m K c 0 1 (by decide) (ctx_credit 0)) $$ [HO H1]
  · isplitr; · iexact HR
    isplitl [HO] <;> iassumption
  iintro ⟨HO, H1⟩
  iapply (step_sent m K c 0 2 (by decide) (ctx_credit 0)) $$ [HO H2]
  · isplitr; · iexact HR
    isplitl [HO] <;> iassumption
  iintro ⟨HO, H2⟩
  simp only [wpc, wp_ret]; imodintro
  iapply HQ
  isplitl [HO]; · iexact HO
  isplitl [H1]; · iexact H1
  isplitl [H2]; · iexact H2
  iexact Ho

end Cert.AttnProof

end
-- ==== Proof.Split.lean ====
/-
# The scratch buffers in parts, and the cells at the end

The context buffer as its two blocks and the landing buffer as its eight slots, split and joined again; and the closing of a
device's seventeen cells, each with its counter at zero.
-/
module

public import proofs.«01_k».proof.Proof.Buffers

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-! ## The context buffer as its two blocks, the landing buffer as its eight slots -/

theorem ctx_disjoint (t t' : Fin 2) (h : t ≠ t') : Disjoint (ctxR t).set (ctxR t').set := by
  refine Finset.disjoint_left.mpr fun i h1 h2 => h ?_
  have h1' := Rect.mem_set_unit.mp h1 0
  have h2' := Rect.mem_set_unit.mp h2 0
  simp only [Matrix.cons_val_zero] at h1' h2'
  exact Fin.ext (by omega)

theorem ctx_cover : (Finset.univ : Finset (Fin 2)).biUnion (fun t => (ctxR t).set) = Finset.univ := by
  refine Finset.eq_univ_iff_forall.mpr fun i => Finset.mem_biUnion.mpr ?_
  have h0 : (i 0).val < 512 := (i 0).isLt
  have h1 : (i 1).val < 256 := (i 1).isLt
  refine ⟨⟨(i 0).val / 256, by omega⟩, Finset.mem_univ _, Rect.mem_set_unit.mpr fun a => ?_⟩
  fin_cases a
  · show 256 * ((i 0).val / 256) ≤ (i 0).val ∧ (i 0).val < 256 * ((i 0).val / 256) + 256; omega
  · show 0 ≤ (i 1).val ∧ (i 1).val < 0 + 256; omega

theorem rs_disjoint (t t' : Fin 2 × Fin 4) (h : t ≠ t') : Disjoint (rsR t).set (rsR t').set := by
  refine Finset.disjoint_left.mpr fun i h1 h2 => h ?_
  have a0 : t.1.val ≤ (i 0).val ∧ (i 0).val < t.1.val + 1 := Rect.mem_set_unit.mp h1 0
  have b0 : t'.1.val ≤ (i 0).val ∧ (i 0).val < t'.1.val + 1 := Rect.mem_set_unit.mp h2 0
  have a1 : t.2.val ≤ (i 1).val ∧ (i 1).val < t.2.val + 1 := Rect.mem_set_unit.mp h1 1
  have b1 : t'.2.val ≤ (i 1).val ∧ (i 1).val < t'.2.val + 1 := Rect.mem_set_unit.mp h2 1
  exact Prod.ext (Fin.ext (by omega)) (Fin.ext (by omega))

theorem rs_cover : (Finset.univ : Finset (Fin 2 × Fin 4)).biUnion (fun t => (rsR t).set) = Finset.univ := by
  refine Finset.eq_univ_iff_forall.mpr fun i => Finset.mem_biUnion.mpr ?_
  have h0 : (i 0).val < 2 := (i 0).isLt
  have h1 : (i 1).val < 4 := (i 1).isLt
  have h2 : (i 2).val < 256 := (i 2).isLt
  have h3 : (i 3).val < 256 := (i 3).isLt
  refine ⟨(⟨(i 0).val, h0⟩, ⟨(i 1).val, h1⟩), Finset.mem_univ _, Rect.mem_set_unit.mpr fun a => ?_⟩
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 256; omega
  · show 0 ≤ (i 3).val ∧ (i 3).val < 0 + 256; omega

omit [FloatOps F] in
/-- A whole buffer at some contents is owned at any contents. -/
theorem whole_any (c : Dev nD) (b : Ref sig .tc) :
    (ownsSat (c : Thread nD τ) (Memref.whole b) fullShare (fun _ => True) : sProp 𝕄) = iprop(∃ f : Buf (Elt F) ((c : Thread nD τ).loc b), ⌜True⌝ ∗ ((c : Thread nD τ).loc b ↦{fullShare} f)) := by
  unfold ownsSat; simp only [Memref.view_whole, View.read_whole, View.set_whole]

omit [FloatOps F] in
/-- A slot at its own shape and at the shape of a block. -/
theorem slot_shape (c : Dev nD) (b : Fin 2) (r : Fin 4) :
    (ownsSat (c : Thread nD τ) (rsS b r) fullShare (fun _ => True) : sProp 𝕄) = slotAny c b r := by
  unfold slotAny; rw [slotOwn_eq]
  have e : (rsQ b r).view.set = (rsS b r).view.set := View.set_reshape _ _
  rw [e]; rfl

omit [FloatOps F] in
theorem ctx_list (Φ : Fin 2 → sProp 𝕄) : bigSep Finset.univ Φ = iprop(Φ 0 ∗ Φ 1) := bigSep_univ_eq_bigSepL [0, 1] (by decide) (by decide) Φ
omit [FloatOps F] in
theorem slots_list (Φ : Fin 2 × Fin 4 → sProp 𝕄) : bigSep Finset.univ Φ
    = iprop(Φ (0, 0) ∗ Φ (0, 1) ∗ Φ (0, 2) ∗ Φ (0, 3) ∗ Φ (1, 0) ∗ Φ (1, 1) ∗ Φ (1, 2) ∗ Φ (1, 3)) :=
  bigSep_univ_eq_bigSepL [(0, 0), (0, 1), (0, 2), (0, 3), (1, 0), (1, 1), (1, 2), (1, 3)] (by decide) (by decide) Φ

/-- All eight slots of a device. -/
def slots (c : Dev nD) : sProp 𝕄 :=
  iprop(slotAny c 0 0 ∗ slotAny c 0 1 ∗ slotAny c 0 2 ∗ slotAny c 0 3 ∗ slotAny c 1 0 ∗ slotAny c 1 1 ∗ slotAny c 1 2 ∗ slotAny c 1 3)

theorem ctx_split (c : Dev nD) : iprop(∃ f : Buf (Elt F) ((c : Thread nD τ).loc cc0_scratch0), (c : Thread nD τ).loc cc0_scratch0 ↦{fullShare} f) ⊢ iprop(ctxAny c 0 ∗ ctxAny c 1) := by
  have h := ownsSat_rects (Ix := Unit) (Name := ℕ) (U := UU) (Lvl := ℕ) (Val := Elt F) (c : Thread nD τ) (ctxM : Memref sig .tc .vmem S512x256 .bf16) fullShare ctxR (fun _ _ => rfl) ctx_disjoint ctx_cover (fun _ _ => True)
  rw [ctx_list] at h
  iintro ⟨%f, H⟩
  iapply h
  iapply (ownsSat_mono (Φ := fun _ => True) _ _ _ (fun _ _ _ => trivial))
  iapply (Entails.of_eq (whole_any c _).symm); iexists f; isplitr; · ipureintro; trivial
  iexact H

theorem ctx_join (c : Dev nD) : (iprop(ctxAny c 0 ∗ ctxAny c 1) : sProp 𝕄) ⊢ iprop(∃ f : Buf (Elt F) ((c : Thread nD τ).loc cc0_scratch0), (c : Thread nD τ).loc cc0_scratch0 ↦{fullShare} f) := by
  have h := ownsSat_of_rects (Ix := Unit) (Name := ℕ) (U := UU) (Lvl := ℕ) (Val := Elt F) (c : Thread nD τ) (ctxM : Memref sig .tc .vmem S512x256 .bf16) fullShare ctxR (fun _ _ => rfl) ctx_disjoint ctx_cover (fun _ _ => True)
  rw [ctx_list] at h
  replace h : iprop(ctxAny c 0 ∗ ctxAny c 1) ⊢ _ := h
  iintro H
  ihave H1 := h $$ H
  ihave H2 := (ownsSat_mono (Ψ := fun _ => True) (c : Thread nD τ) (ctxM : Memref sig .tc .vmem S512x256 .bf16) fullShare (fun _ _ => trivial)) $$ H1
  ihave H3 := (Entails.of_eq (whole_any c cc0_scratch0)) $$ H2
  icases H3 with ⟨%f, -, H⟩
  iexists f; iexact H

theorem rs_split (c : Dev nD) : iprop(∃ f : Buf (Elt F) ((c : Thread nD τ).loc cc0_scratch1), (c : Thread nD τ).loc cc0_scratch1 ↦{fullShare} f) ⊢ slots c := by
  have h := ownsSat_rects (Ix := Unit) (Name := ℕ) (U := UU) (Lvl := ℕ) (Val := Elt F) (c : Thread nD τ) (rsM : Memref sig .tc .vmem S2x4x256x256 .bf16) fullShare rsR (fun _ _ => rfl) rs_disjoint rs_cover (fun _ _ => True)
  replace h : _ ⊢ bigSep Finset.univ (fun p : Fin 2 × Fin 4 => ownsSat (c : Thread nD τ) (rsS p.1 p.2) fullShare fun _ => True) := h
  rw [bigSep_congr (fun (p : Fin 2 × Fin 4) _ => slot_shape c p.1 p.2), slots_list] at h
  iintro ⟨%f, H⟩
  unfold slots
  iapply h
  iapply (ownsSat_mono (Φ := fun _ => True) _ _ _ (fun _ _ _ => trivial))
  iapply (Entails.of_eq (whole_any c _).symm); iexists f; isplitr; · ipureintro; trivial
  iexact H

theorem rs_join (c : Dev nD) : (slots c : sProp 𝕄) ⊢ iprop(∃ f : Buf (Elt F) ((c : Thread nD τ).loc cc0_scratch1), (c : Thread nD τ).loc cc0_scratch1 ↦{fullShare} f) := by
  have h := ownsSat_of_rects (Ix := Unit) (Name := ℕ) (U := UU) (Lvl := ℕ) (Val := Elt F) (c : Thread nD τ) (rsM : Memref sig .tc .vmem S2x4x256x256 .bf16) fullShare rsR (fun _ _ => rfl) rs_disjoint rs_cover (fun _ _ => True)
  replace h : bigSep Finset.univ (fun p : Fin 2 × Fin 4 => ownsSat (c : Thread nD τ) (rsS p.1 p.2) fullShare fun _ => True) ⊢ _ := h
  rw [bigSep_congr (fun (p : Fin 2 × Fin 4) _ => slot_shape c p.1 p.2), slots_list] at h
  unfold slots
  iintro H
  ihave H1 := h $$ H
  ihave H2 := (ownsSat_mono (Ψ := fun _ => True) (c : Thread nD τ) (rsM : Memref sig .tc .vmem S2x4x256x256 .bf16) fullShare (fun _ _ => trivial)) $$ H1
  ihave H3 := (Entails.of_eq (whole_any c cc0_scratch1)) $$ H2
  icases H3 with ⟨%f, -, H⟩
  iexists f; iexact H

/-! ## The cells of a device -/

omit [FloatOps F] in
/-- A device's seventeen cells, one by one: the barrier's, the send cells, the receive cells. -/
theorem cells_list (Φ : Fin 17 → sProp 𝕄) : bigSep Finset.univ Φ
    = iprop(Φ 0 ∗ (Φ (kS 0 0) ∗ Φ (kS 1 0) ∗ Φ (kR 0 0) ∗ Φ (kR 1 0)) ∗ (Φ (kS 0 1) ∗ Φ (kS 0 2) ∗ Φ (kS 0 3) ∗ Φ (kS 1 1) ∗ Φ (kS 1 2) ∗ Φ (kS 1 3))
      ∗ (Φ (kR 0 1) ∗ Φ (kR 0 2) ∗ Φ (kR 0 3) ∗ Φ (kR 1 1) ∗ Φ (kR 1 2) ∗ Φ (kR 1 3))) := by
  rw [bigSep_univ_eq_bigSepL [0, kS 0 0, kS 1 0, kR 0 0, kR 1 0, kS 0 1, kS 0 2, kS 0 3, kS 1 1, kS 1 2, kS 1 3, kR 0 1, kR 0 2, kR 0 3, kR 1 1, kR 1 2, kR 1 3]
    (by decide) (by decide) Φ]
  simp only [bigSepL_cons_cons, bigSepL_singleton]
  refine BI.equiv_iff.mp ⟨show (iprop(Φ 0 ∗ Φ (kS 0 0) ∗ Φ (kS 1 0) ∗ Φ (kR 0 0) ∗ Φ (kR 1 0) ∗ Φ (kS 0 1) ∗ Φ (kS 0 2) ∗ Φ (kS 0 3) ∗ Φ (kS 1 1) ∗ Φ (kS 1 2) ∗ Φ (kS 1 3)
      ∗ Φ (kR 0 1) ∗ Φ (kR 0 2) ∗ Φ (kR 0 3) ∗ Φ (kR 1 1) ∗ Φ (kR 1 2) ∗ Φ (kR 1 3)) : sProp 𝕄) ⊢ _ from ?_,
    show _ ⊢ (iprop(Φ 0 ∗ Φ (kS 0 0) ∗ Φ (kS 1 0) ∗ Φ (kR 0 0) ∗ Φ (kR 1 0) ∗ Φ (kS 0 1) ∗ Φ (kS 0 2) ∗ Φ (kS 0 3) ∗ Φ (kS 1 1) ∗ Φ (kS 1 2) ∗ Φ (kS 1 3)
      ∗ Φ (kR 0 1) ∗ Φ (kR 0 2) ∗ Φ (kR 0 3) ∗ Φ (kR 1 1) ∗ Φ (kR 1 2) ∗ Φ (kR 1 3)) : sProp 𝕄) from ?_⟩
  · iintro ⟨A, B0, B1, B2, B3, C1, C2, C3, C4, C5, C6, D⟩; iframe
  · iintro ⟨A, ⟨B0, B1, B2, B3⟩, ⟨C1, C2, C3, C4, C5, C6⟩, D⟩; iframe

/-- A cell at a round from which it has no duty. -/
def done (ck : Dev nD × Fin 17) : sProp 𝕄 := iprop(∃ R, ⌜∀ r, R ≤ r → (rd (F := F) m).duties (kcell ck) r = ∅⌝ ∗ atPos ER (kcell ck) R ∅ 0)

/-- A finished cell's counter is zero. -/
theorem close_one (ck : Dev nD × Fin 17) : iprop(records m K ∗ done m ck) ⊢ (|={Set.univ}=> semVal (kcell ck) 0 : sProp 𝕄) := by
  unfold done
  iintro ⟨#HR, %R, %hR, Hat⟩
  iapply (Rounds.cell_close ER (rd m) (Set.mem_univ (K ck)) (fun h => h) (R := R) hR)
  isplitr; · iapply (inv_at m K ck); iexact HR
  iexact Hat

/-- So are all of a device's. -/
theorem close_all : iprop(records m K ∗ bigSep Finset.univ fun k : Fin 17 => done m (c, k)) ⊢ (|={Set.univ}=> bigSep Finset.univ fun k : Fin 17 => semVal (kcell (c, k)) 0 : sProp 𝕄) :=
  ((sep_mono_left (BI.bigSep_of_persistent Finset.univ (records m K))).trans (by rw [← bigSep_sep']; exact bigSep_mono fun k _ => close_one m K (c, k))).trans (bigSep_fupd _ _)

/-- A cell past its one round is finished, -/
theorem done_later (ck : Dev nD × Fin 17) : (atPos ER (kcell ck) 1 ∅ 0 : sProp 𝕄) ⊢ done m ck := by
  unfold done; iintro H; iexists 1; isplitr
  · ipureintro; exact duties_later m _
  · iexact H
theorem done_bar : (atPos ER (barCell c) 1 ∅ 0 : sProp 𝕄) ⊢ done m (c, 0) := done_later m (c, 0)
theorem done_send (b : Fin 2) (r : Fin 4) : (atPos ER (sendCell c b r) 1 ∅ 0 : sProp 𝕄) ⊢ done m (c, kS b r) := by
  have h := done_later m (c, kS b r); unfold kcell at h; rwa [csem_send] at h
theorem done_recv (b : Fin 2) (r : Fin 4) : (atPos ER (recvCell c b r) 1 ∅ 0 : sProp 𝕄) ⊢ done m (c, kR b r) := by
  have h := done_later m (c, kR b r); unfold kcell at h; rwa [csem_recv] at h
/-- and a cell of distance zero has no duty from the start. -/
theorem idle_send (b : Fin 2) : (atPos ER (kcell (c, kS b 0)) 0 ∅ 0 : sProp 𝕄) ⊢ done m (c, kS b 0) := by
  unfold done; iintro H; iexists 0; isplitr
  · ipureintro; intro r _; unfold kcell; rw [csem_send]; exact duties_none m c _ (by revert b; decide) r
  · iexact H
theorem idle_recv (b : Fin 2) : (atPos ER (kcell (c, kR b 0)) 0 ∅ 0 : sProp 𝕄) ⊢ done m (c, kR b 0) := by
  unfold done; iintro H; iexists 0; isplitr
  · ipureintro; intro r _; unfold kcell; rw [csem_recv]; exact duties_none m c _ (by revert b; decide) r
  · iexact H

end Cert.AttnProof

end
-- ==== Proof.BodyD.lean ====
/-
# The whole body

The parts of the body in order, then the last four waits: from what a device is launched with to its buffers with the output
written, and every counter at zero.
-/
module

public import proofs.«01_k».proof.Proof.BodyA
public import proofs.«01_k».proof.Proof.BodyB
public import proofs.«01_k».proof.Proof.BodyC
public import proofs.«01_k».proof.Proof.Split

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-! ## What the body starts from and what it leaves -/

/-- The duty a device performs at the barrier of the device `r` places up. -/
def barTok (r : Fin 4) : sProp 𝕄 := dutyTok ER (barCell (sh r c)) 0 (neg r)

/-- All the tokens of a device: its three signals and its six copies. -/
def payToks : sProp 𝕄 :=
  iprop((barTok c 1 ∗ barTok c 2 ∗ barTok c 3) ∗ copyToks c 0 1 ∗ copyToks c 0 2 ∗ copyToks c 0 3 ∗ copyToks c 1 1 ∗ copyToks c 1 2 ∗ copyToks c 1 3)

/-- Its positions, all at the start. -/
def posns : sProp 𝕄 := bigSep Finset.univ fun k : Fin 17 => atPos ER (kcell (c, k)) 0 ∅ 0

/-- The credits a device is launched with: its barrier's three units and its six landings. -/
def creds : sProp 𝕄 :=
  iprop(cred (tallyAt (barCell c) () 3) ∗ cred (tallyAt (recvCell c 0 1) () N) ∗ cred (tallyAt (recvCell c 0 2) () N) ∗ cred (tallyAt (recvCell c 0 3) () N)
    ∗ cred (tallyAt (recvCell c 1 1) () N) ∗ cred (tallyAt (recvCell c 1 2) () N) ∗ cred (tallyAt (recvCell c 1 3) () N))

/-- The scratch buffers, at any contents. -/
def scratch : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

/-- The counters of a device's cells, all zero. -/
def zeros : sProp 𝕄 := bigSep Finset.univ fun k : Fin 17 => semVal (kcell (c, k)) 0

/-- Each slot lent to the device that writes it, beside the signal that tells it so. -/
theorem lend : iprop((barTok c 1 ∗ barTok c 2 ∗ barTok c 3) ∗ slots c)
    ⊢ (iprop(sigRes c 1 ∗ sigRes c 2 ∗ sigRes c 3 ∗ slotAny c 0 0 ∗ slotAny c 1 0) : sProp 𝕄) := by
  have e1 : neg 1 = 3 := by decide
  have e2 : neg 2 = 2 := by decide
  have e3 : neg 3 = 1 := by decide
  unfold slots sigRes barTok
  rw [e1, e2, e3]
  iintro ⟨⟨T1, T2, T3⟩, A0, A1, A2, A3, B0, B1, B2, B3⟩
  iframe

theorem sendRes_intro (b : Fin 2) (r : Fin 4) : iprop(copyToks c b r ∗ ctxAt c b (qs r) (ctxB m b c) ∗ slotAny (sh r c) b r) ⊢ (sendRes m c b r : sProp 𝕄) := .rfl
theorem recvRes_intro (b : Fin 2) (r : Fin 4) : iprop(cred (tallyAt (recvCell c b r) () N) ∗ atPos ER (kcell (c, kR b r)) 0 ∅ 0) ⊢ (recvRes c b r : sProp 𝕄) := by
  unfold recvRes kcell; rw [csem_recv]
theorem sentRes_intro (b : Fin 2) (r : Fin 4) : iprop(cred (tallyAt (sendCell c b r) () N) ∗ atPos ER (kcell (c, kS b r)) 0 ∅ 0) ⊢ (sentRes c b r : sProp 𝕄) := by
  unfold sentRes kcell; rw [csem_send]
theorem recvd_elim (b : Fin 2) (r : Fin 4) : (recvd m c b r : sProp 𝕄) ⊢ iprop(done m (c, kR b r) ∗ slotAny c b r) := by
  unfold recvd; exact BIClass.sep_mono (done_recv m c b r) (slotAny_of c b r _)
theorem sent_elim (b : Fin 2) (r : Fin 4) : (sent m c b r : sProp 𝕄) ⊢ iprop(done m (c, kS b r) ∗ ctxAt c b (qs r) (ctxB m b c)) := by
  unfold sent; exact sep_mono_left (done_send m c b r)

theorem quarters_any (b : Fin 2) : iprop((ctxAt c b (qs 0) (ctxB m b c) ∗ ctxAt c b (qs 1) (ctxB m b c)) ∗ ctxAt c b (qs 2) (ctxB m b c) ∗ ctxAt c b (qs 3) (ctxB m b c)) ⊢ (ctxAny c b : sProp 𝕄) :=
  (ctx_quarters c b (ctxB m b c)).2.trans (ctxAny_of c b _)

/-- The wait for one of the last copies to have been read. -/
theorem last_wait (b : Fin 2) (r : Fin 4) (hr : r ≠ 0) {src dst : Memref sig .tc .vmem S256x256 .bf16} {h1 h2} (hd : dst.view.dmaCredit = N) {α} {Q : α → sProp 𝕄} {k : PUnit → Prog (TpuEff nD τ sig (Elt F) Λ₀ .tc) α} :
    iprop(records m K ∗ ow c 0 ∗ sentRes c b r) ⊢ iprop((ow c 0 ∗ sent m c b r -∗ wpc c (k ⟨⟩) Q) -∗ wpc c (.op (.waitDma2 (sS b r) src dst h1 h2) k) Q) := by
  unfold sentRes
  exact step_sent m K c b r hr hd

set_option maxHeartbeats 4000000 in
/-- The whole body, from a device's resources to its buffers with the output written and its counters all zero. -/
theorem body_run (f : (cc0_stg5_0 : Ref sig .tc).ty.Contents (Elt F)) {Q : PUnit → sProp 𝕄} :
    iprop(records m K ∗ levAts L lv ∗ ow c (O₀ c) ∗ creds c ∗ posns c ∗ payToks c ∗ scratch c ∗ inputs m c
        ∗ ((c : Thread nD τ).loc cc0_stg4_0 ↦{fullShare} woA m c) ∗ ((c : Thread nD τ).loc cc0_stg5_0 ↦{fullShare} f))
      ⊢ iprop((ow c 0 ∗ zeros c ∗ scratch c ∗ inputs m c ∗ ((c : Thread nD τ).loc cc0_stg4_0 ↦{fullShare} woA m c)
            ∗ ((c : Thread nD τ).loc cc0_stg5_0 ↦{fullShare} outW m c f) -∗ Q ⟨⟩)
          -∗ wpc c (cc0_body (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4) Q) := by
  simp only [cc0_body_eq_skeleton]
  unfold cc0_body_skel
  simp only [k0_part16_eq_skeleton]
  unfold k0_part16_skel wpc
  simp only [Prog.lift, Prog.pure_eq_ret, wp_bind]
  unfold creds posns payToks scratch
  rw [cells_list]
  iintro ⟨#HR, #Hlev, HO, ⟨Cb, C01, C02, C03, C11, C12, C13⟩, ⟨Pb, ⟨I0, I1, J0, J1⟩, ⟨S01, S02, S03, S11, S12, S13⟩, ⟨R01, R02, R03, R11, R12, R13⟩⟩,
    ⟨Hbt, T01, T02, T03, T11, T12, T13⟩, ⟨Hsc0, Hsc1, Hsc2⟩, Hin, Hwo, Ho⟩ HQ
  ihave Hctx := (ctx_split c) $$ Hsc0
  icases Hctx with ⟨Hc0, Hc1⟩
  ihave Hsl := (rs_split c) $$ Hsc1
  ihave Hlend := (lend c) $$ [Hbt Hsl]
  · isplitl [Hbt] <;> iassumption
  icases Hlend with ⟨G1, G2, G3, A00, A10⟩
  ihave R01 := (recvRes_intro c 0 1) $$ [C01 R01]
  · isplitl [C01] <;> iassumption
  ihave R02 := (recvRes_intro c 0 2) $$ [C02 R02]
  · isplitl [C02] <;> iassumption
  ihave R03 := (recvRes_intro c 0 3) $$ [C03 R03]
  · isplitl [C03] <;> iassumption
  ihave R11 := (recvRes_intro c 1 1) $$ [C11 R11]
  · isplitl [C11] <;> iassumption
  ihave R12 := (recvRes_intro c 1 2) $$ [C12 R12]
  · isplitl [C12] <;> iassumption
  ihave R13 := (recvRes_intro c 1 3) $$ [C13 R13]
  · isplitl [C13] <;> iassumption
  iapply (part1 m K c) $$ [HO G1 G2 G3 Hin]
  · isplitr; · iexact HR
    isplitl [HO]; · iexact HO
    isplitl [G1]; · iexact G1
    isplitl [G2]; · iexact G2
    isplitl [G3]; · iexact G3
    iexact Hin
  iintro ⟨HO, Hin⟩
  dsimp only
  iapply (part2 c _ _ _ _ _ _)
  dsimp only
  iapply (part3 m c _ _ _ _ _ _ _) $$ Hin; iintro Hin
  dsimp only
  iapply (part4 m c _ _ _ _) $$ Hin; iintro Hin
  dsimp only
  iapply (part5 m K c _ rfl) $$ [HO Cb Pb Hin Hc0]
  · isplitr; · iexact HR
    isplitr; · iexact Hlev
    isplitl [HO]; · iexact HO
    isplitl [Cb]; · iexact Cb
    isplitl [Pb]; · iexact Pb
    isplitl [Hin]; · iexact Hin
    iexact Hc0
  iintro ⟨HO, Pb, Hin, Hc0, B1, B2, B3⟩
  dsimp only
  unfold barPay
  icases B1 with ⟨D01, D11⟩
  icases B2 with ⟨D02, D12⟩
  icases B3 with ⟨D03, D13⟩
  ihave Hq := (ctx_quarters c 0 (ctxB m 0 c)).1 $$ Hc0
  icases Hq with ⟨⟨Q00, Q01⟩, Q02, Q03⟩
  ihave X01 := (sendRes_intro m c 0 1) $$ [T01 Q01 D01]
  · isplitl [T01]; · iexact T01
    isplitl [Q01]; · iexact Q01
    iexact D01
  ihave X02 := (sendRes_intro m c 0 2) $$ [T02 Q02 D02]
  · isplitl [T02]; · iexact T02
    isplitl [Q02]; · iexact Q02
    iexact D02
  ihave X03 := (sendRes_intro m c 0 3) $$ [T03 Q03 D03]
  · isplitl [T03]; · iexact T03
    isplitl [Q03]; · iexact Q03
    iexact D03
  iapply (part6 m K c _ _) $$ [HO X02 X01]
  · isplitr; · iexact HR
    isplitl [HO]; · iexact HO
    isplitl [X02]; · iexact X02
    iexact X01
  iintro ⟨HO, E02, E01⟩
  dsimp only
  iapply (part7 m K c _ _) $$ [HO X03 Hin]
  · isplitr; · iexact HR
    isplitl [HO]; · iexact HO
    isplitl [X03]; · iexact X03
    iexact Hin
  iintro ⟨HO, E03, Hin⟩
  dsimp only
  iapply (part8 m c _ _ _ _) $$ Hin; iintro Hin
  dsimp only
  iapply (part9 m K c _ rfl) $$ [HO Hc1 T12 D12]
  · isplitr; · iexact HR
    isplitl [HO]; · iexact HO
    isplitl [Hc1]; · iexact Hc1
    isplitl [T12]; · iexact T12
    iexact D12
  iintro ⟨HO, E12, Q10, Q11, Q13⟩
  dsimp only
  ihave X11 := (sendRes_intro m c 1 1) $$ [T11 Q11 D11]
  · isplitl [T11]; · iexact T11
    isplitl [Q11]; · iexact Q11
    iexact D11
  ihave X13 := (sendRes_intro m c 1 3) $$ [T13 Q13 D13]
  · isplitl [T13]; · iexact T13
    isplitl [Q13]; · iexact Q13
    iexact D13
  iapply (part10 m K c _ _) $$ [HO X11 X13 Hwo Hsc2 Q00]
  · isplitr; · iexact HR
    isplitl [HO]; · iexact HO
    isplitl [X11]; · iexact X11
    isplitl [X13]; · iexact X13
    isplitl [Hwo]; · iexact Hwo
    isplitl [Hsc2]; · iexact Hsc2
    iexact Q00
  iintro ⟨HO, E11, E13, Hwo, Hw, Q00⟩
  dsimp only
  ihave S01 := (sentRes_intro c 0 1) $$ [E01 S01]
  · isplitl [E01]; · iexact E01
    iexact S01
  ihave S02 := (sentRes_intro c 0 2) $$ [E02 S02]
  · isplitl [E02]; · iexact E02
    iexact S02
  ihave S03 := (sentRes_intro c 0 3) $$ [E03 S03]
  · isplitl [E03]; · iexact E03
    iexact S03
  ihave S11 := (sentRes_intro c 1 1) $$ [E11 S11]
  · isplitl [E11]; · iexact E11
    iexact S11
  ihave S12 := (sentRes_intro c 1 2) $$ [E12 S12]
  · isplitl [E12]; · iexact E12
    iexact S12
  ihave S13 := (sentRes_intro c 1 3) $$ [E13 S13]
  · isplitl [E13]; · iexact E13
    iexact S13
  iapply (part11 m K c _ _ _ _ _) $$ [HO R01 R03 Hw]
  · isplitr; · iexact HR
    isplitl [HO]; · iexact HO
    isplitl [R01]; · iexact R01
    isplitl [R03]; · iexact R03
    iexact Hw
  iintro ⟨HO, R01, R03, Hw⟩
  try dsimp only
  iapply (part12 m K c _ _ _ f) $$ [HO R02 R03 Hw Ho]
  · isplitr; · iexact HR
    isplitl [HO]; · iexact HO
    isplitl [R02]; · iexact R02
    isplitl [R03]; · iexact R03
    isplitl [Hw]; · iexact Hw
    iexact Ho
  iintro ⟨HO, R02, R03, Hw, Ho⟩
  try dsimp only
  iapply (part13 m K c _ _ _ _) $$ [HO R11 Hw Q10]
  · isplitr; · iexact HR
    isplitl [HO]; · iexact HO
    isplitl [R11]; · iexact R11
    isplitl [Hw]; · iexact Hw
    iexact Q10
  iintro ⟨HO, R11, Hw, Q10⟩
  try dsimp only
  iapply (part14 m K c _ _ _) $$ [HO R13 R12 Hw]
  · isplitr; · iexact HR
    isplitl [HO]; · iexact HO
    isplitl [R13]; · iexact R13
    isplitl [R12]; · iexact R12
    iexact Hw
  iintro ⟨HO, R13, R12, Hw⟩
  try dsimp only
  iapply (part15 m K c _ _ _ _) $$ [HO S01 S02 Ho]
  · isplitr; · iexact HR
    isplitl [HO]; · iexact HO
    isplitl [S01]; · iexact S01
    isplitl [S02]; · iexact S02
    iexact Ho
  iintro ⟨HO, S01, S02, Ho⟩
  try dsimp only
  iapply (last_wait m K c 0 3 (by decide) (ctx_credit 0)) $$ [HO S03]
  · isplitr; · iexact HR
    isplitl [HO]; · iexact HO
    iexact S03
  iintro ⟨HO, S03⟩
  simp only [wpc, wp_ret]
  imodintro
  iapply (last_wait m K c 1 1 (by decide) (ctx_credit 1)) $$ [HO S11]
  · isplitr; · iexact HR
    isplitl [HO]; · iexact HO
    iexact S11
  iintro ⟨HO, S11⟩
  simp only [wpc, wp_ret]
  imodintro
  iapply (last_wait m K c 1 2 (by decide) (ctx_credit 1)) $$ [HO S12]
  · isplitr; · iexact HR
    isplitl [HO]; · iexact HO
    iexact S12
  iintro ⟨HO, S12⟩
  simp only [wpc, wp_ret]
  imodintro
  imodintro
  iapply (last_wait m K c 1 3 (by decide) (ctx_credit 1)) $$ [HO S13]
  · isplitr; · iexact HR
    isplitl [HO]; · iexact HO
    iexact S13
  iintro ⟨HO, S13⟩
  ihave Y := (recvd_elim m c 0 1) $$ R01; icases Y with ⟨R01, A01⟩
  ihave Y := (sent_elim m c 0 1) $$ S01; icases Y with ⟨S01, Q01⟩
  ihave Y := (recvd_elim m c 0 2) $$ R02; icases Y with ⟨R02, A02⟩
  ihave Y := (sent_elim m c 0 2) $$ S02; icases Y with ⟨S02, Q02⟩
  ihave Y := (recvd_elim m c 0 3) $$ R03; icases Y with ⟨R03, A03⟩
  ihave Y := (sent_elim m c 0 3) $$ S03; icases Y with ⟨S03, Q03⟩
  ihave Y := (recvd_elim m c 1 1) $$ R11; icases Y with ⟨R11, A11⟩
  ihave Y := (sent_elim m c 1 1) $$ S11; icases Y with ⟨S11, Q11⟩
  ihave Y := (recvd_elim m c 1 2) $$ R12; icases Y with ⟨R12, A12⟩
  ihave Y := (sent_elim m c 1 2) $$ S12; icases Y with ⟨S12, Q12⟩
  ihave Y := (recvd_elim m c 1 3) $$ R13; icases Y with ⟨R13, A13⟩
  ihave Y := (sent_elim m c 1 3) $$ S13; icases Y with ⟨S13, Q13⟩
  ihave Hc0 := (quarters_any m c 0) $$ [Q00 Q01 Q02 Q03]
  · isplitl [Q00 Q01]
    · isplitl [Q00] <;> iassumption
    isplitl [Q02] <;> iassumption
  ihave Hc1 := (quarters_any m c 1) $$ [Q10 Q11 Q12 Q13]
  · isplitl [Q10 Q11]
    · isplitl [Q10] <;> iassumption
    isplitl [Q12] <;> iassumption
  ihave Hsc0 := (ctx_join c) $$ [Hc0 Hc1]
  · isplitl [Hc0]; · iexact Hc0
    iexact Hc1
  ihave Hsl : slots c $$ [A00 A01 A02 A03 A10 A11 A12 A13]
  · unfold slots
    isplitl [A00]; · iexact A00
    isplitl [A01]; · iexact A01
    isplitl [A02]; · iexact A02
    isplitl [A03]; · iexact A03
    isplitl [A10]; · iexact A10
    isplitl [A11]; · iexact A11
    isplitl [A12]; · iexact A12
    iexact A13
  ihave Hsc1 := (rs_join c) $$ Hsl
  ihave Pb := (done_bar m c) $$ Pb
  ihave I0 := (idle_send m c 0) $$ I0
  ihave J0 := (idle_recv m c 0) $$ J0
  ihave I1 := (idle_send m c 1) $$ I1
  ihave J1 := (idle_recv m c 1) $$ J1
  ihave Hd : (bigSep Finset.univ fun k : Fin 17 => done m (c, k)) $$ [Pb I0 I1 J0 J1 S01 S02 S03 S11 S12 S13 R01 R02 R03 R11 R12 R13]
  · rw [cells_list]
    isplitl [Pb]; · iexact Pb
    isplitl [I0 I1 J0 J1]
    · isplitl [I0]; · iexact I0
      isplitl [I1]; · iexact I1
      isplitl [J0]; · iexact J0
      iexact J1
    isplitl [S01 S02 S03 S11 S12 S13]
    · isplitl [S01]; · iexact S01
      isplitl [S02]; · iexact S02
      isplitl [S03]; · iexact S03
      isplitl [S11]; · iexact S11
      isplitl [S12]; · iexact S12
      iexact S13
    · isplitl [R01]; · iexact R01
      isplitl [R02]; · iexact R02
      isplitl [R03]; · iexact R03
      isplitl [R11]; · iexact R11
      isplitl [R12]; · iexact R12
      iexact R13
  simp only [wpc, wp_ret]
  imod (close_all m K c) $$ [Hd] with Hz
  · isplitr; · iexact HR
    iexact Hd
  imodintro
  imodintro
  iapply HQ
  isplitl [HO]; · iexact HO
  isplitl [Hz]; · unfold zeros; iexact Hz
  isplitl [Hsc0 Hsc1 Hw]
  · isplitl [Hsc0]; · iexact Hsc0
    isplitl [Hsc1]; · iexact Hsc1
    unfold wob; iexists _; iexact Hw
  isplitl [Hin]; · iexact Hin
  isplitl [Hwo]; · iexact Hwo
  iexact Ho

end Cert.AttnProof

end
-- ==== Proof.Launch.lean ====
/-
# The body as the pipeline runs it

What the output buffer holds at the end, the pipeline's data, and the body's obligation.
-/
module

public import proofs.«01_k».proof.Proof.BodyD
public import proofs.«01_k».proof.Proof.Gen.KernelIdeal.Points

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-! ## The output buffer's contents -/

/-- The index of a stored block at the same row and column. -/
def rowIx (i : S2x256x512.Idx) : S1x256x512.Idx := fun a => match a with
  | ⟨0, _⟩ => (0 : Fin 1) | ⟨1, _⟩ => i 1 | ⟨2, _⟩ => i 2

/-- The output's row `b` is the store of batch entry `b`, whatever the buffer held. -/
theorem outW_apply (f : (cc0_stg5_0 : Ref sig .tc).ty.Contents (Elt F)) (i : S2x256x512.Idx) :
    outW m c f i = if (i 0).val = 0 then out0 m c (rowIx i) else out1 m c (rowIx i) := by
  have h0 : (i 0).val < 2 := (i 0).isLt
  have e (o : Nat) (ho : ∀ a, (![o, 0, 0] : Fin 3 → Nat) a + S1x256x512.size a ≤ S2x256x512.size a) (hi : (i 0).val = o) :
      (Rect.unit (s := S2x256x512) ![o, 0, 0] S1x256x512.size ho).emb (rowIx i) = i := by
    funext a; apply Fin.ext
    fin_cases a
    · show o + 1 * 0 = (i 0).val; omega
    · show 0 + 1 * (i 1).val = (i 1).val; omega
    · show 0 + 1 * (i 2).val = (i 2).val; omega
  have w (o : Nat) (ho : ∀ a, (![o, 0, 0] : Fin 3 → Nat) a + S1x256x512.size a ≤ S2x256x512.size a) (hi : (i 0).val = o)
      (g : (cc0_stg5_0 : Ref sig .tc).ty.Contents (Elt F)) (X : FVec F S1x256x512 .f32) :
      ((oM : Memref sig .tc .vmem S2x256x512 .f32).access (Rect.unit (s := S2x256x512) ![o, 0, 0] S1x256x512.size ho)).write (Elt F) g X Finset.univ i = X (rowIx i) := by
    have h := ((oM : Memref sig .tc .vmem S2x256x512 .f32).access (Rect.unit (s := S2x256x512) ![o, 0, 0] S1x256x512.size ho)).write_emb_of_mem (Val := Elt F) g X
      (M := Finset.univ) (x := (rowIx i)) (Finset.mem_univ _)
    have he : ((oM : Memref sig .tc .vmem S2x256x512 .f32).access (Rect.unit (s := S2x256x512) ![o, 0, 0] S1x256x512.size ho)).emb (rowIx i) = i := e o ho hi
    rw [he] at h
    exact h
  unfold outW
  by_cases hi : (i 0).val = 0
  · rw [if_pos hi, View.write_of_not_mem, w 0 _ hi]
    intro hm
    rw [View.setOn_univ] at hm
    have hm' : i ∈ (Rect.unit (s := S2x256x512) ![1, 0, 0] S1x256x512.size inb_S2x256x512_S1x256x512_1_0_0).set := by
      have hs := View.set_slice_whole (cc0_stg5_0 : Ref sig .tc) (Rect.unit (s := S2x256x512) ![1, 0, 0] S1x256x512.size inb_S2x256x512_S1x256x512_1_0_0)
      rw [← hs]; exact hm
    have := (Rect.mem_set_unit.mp hm' 0).1
    simp only [Matrix.cons_val_zero] at this
    omega
  · rw [if_neg hi, w 1 _ (by omega)]

/-- The output of device `c`, its two blocks stored. -/
def outA : (cc0_stg5_0 : Ref sig .tc).ty.Contents (Elt F) := outW m c (xA m c)
theorem outW_eq (f : (cc0_stg5_0 : Ref sig .tc).ty.Contents (Elt F)) : outW m c f = outA m c := by
  funext i; unfold outA; rw [outW_apply, outW_apply]

/-! ## What the pipeline is told -/

/-- What a device's body starts from. -/
def start : sProp 𝕄 := iprop((∃ K, records m K ∗ posns c ∗ payToks c) ∗ creds c ∗ levAts L lv)
def Φ₀ : sProp 𝕄 := iprop(start m c ∗ scratch c)
def Φ₁ : sProp 𝕄 := iprop(scratch c ∗ zeros c)

variable (ρ : Dev nD → PrngReg)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => wqA m c
    | ⟨2, _⟩ => kA m c
    | ⟨3, _⟩ => vA m c
    | ⟨4, _⟩ => woA m c
    | ⟨5, _⟩ => outA m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer at given contents. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
def pre : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def post : sProp 𝕄 :=
  iprop(Φ₁ c ∗ (dats m ρ 0 c).owesAt () t0_0.succ ∗ stg c cc0_stg0_0 (xA m c) ∗ stg c cc0_stg1_0 (wqA m c) ∗ stg c cc0_stg2_0 (kA m c)
    ∗ stg c cc0_stg3_0 (vA m c) ∗ stg c cc0_stg4_0 (woA m c) ∗ stg c cc0_stg5_0 (outA m c))

/-- The body from what the pipeline hands it to what the pipeline wants back. -/
theorem sound : pre m c ρ ⊢ wpc c (cc0_body (F := F) xM (Memref.isWhole_whole _) wqM (Memref.isWhole_whole _) kM (Memref.isWhole_whole _) vM (Memref.isWhole_whole _)
              woM (Memref.isWhole_whole _) oM (Memref.isWhole_whole _) ctxM (Memref.isWhole_whole _) rsM (Memref.isWhole_whole _) wobM (Memref.isWhole_whole _)
              cc0_scratch3 cc0_scratch4) (fun _ => post m c ρ) := by
  unfold pre Φ₀ start
  iintro ⟨⟨⟨⟨%K, HR, Hp, Ht⟩, Hc, Hl⟩, Hs⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xA m c := by rw [h0]; unfold Dat.before; rw [if_pos (fetch0_0 t0_0)]; rfl
  have e1 : g1 = wqA m c := by rw [h1]; unfold Dat.before; rw [if_pos (fetch0_1 t0_0)]; rfl
  have e2 : g2 = kA m c := by rw [h2]; unfold Dat.before; rw [if_pos (fetch0_2 t0_0)]; rfl
  have e3 : g3 = vA m c := by rw [h3]; unfold Dat.before; rw [if_pos (fetch0_3 t0_0)]; rfl
  have e4 : g4 = woA m c := by rw [h4]; unfold Dat.before; rw [if_pos (fetch0_4 t0_0)]; rfl
  subst e0 e1 e2 e3 e4
  unfold Dat.owesAt Pipeline.owesWithin
  icases Ho with ⟨%W, %hW, HO⟩
  rw [show (dats m ρ 0 c).owed t0_0.castSucc = O₀ c from rfl]
  iapply (body_run m K c g5) $$ [HR Hp Ht Hc Hl Hs HO H0 H1 H2 H3 H4 H5]
  · isplitl [HR]; · iexact HR
    isplitl [Hl]; · iexact Hl
    isplitl [HO]; · iexists W; iexact HO
    isplitl [Hc]; · iexact Hc
    isplitl [Hp]; · iexact Hp
    isplitl [Ht]; · iexact Ht
    isplitl [Hs]; · iexact Hs
    isplitl [H0 H1 H2 H3]
    · unfold inputs
      isplitl [H0]; · iexact H0
      isplitl [H1]; · iexact H1
      isplitl [H2]; · iexact H2
      iexact H3
    isplitl [H4]; · iexact H4
    iexact H5
  rw [outW_eq]
  unfold inputs
  iintro ⟨⟨%W', HO⟩, Hz, Hs, ⟨H0, H1, H2, H3⟩, H4, H5⟩
  unfold post Φ₁ Dat.owesAt Pipeline.owesWithin
  rw [show (dats m ρ 0 c).owed t0_0.succ = 0 from rfl]
  isplitl [Hs Hz]
  · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- What the pipeline asks of the body. -/
theorem body_obligation : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ,
    show ∀ Φ : Fin cfg0.W → sProp 𝕄, bigSep Finset.univ Φ = _ from fun Φ => bigSep_W0 Φ]
  simp only [owns_whole_eq]
  exact sound m c ρ

end Cert.AttnProof

end
-- ==== Proof.Run.lean ====
/-
# The launch and the run

The cells and tokens dealt at launch, the credits, and the run of the whole program: every execution ends with the arguments
unchanged, each device's output as computed and every counter at zero.
-/
module

public import proofs.«01_k».proof.Proof.Launch
public import Idealize.ShloMosaic.Lib.Pipeline.CollectiveSegs
public import Idealize.ShloMosaic.Lib.Pipeline.Quiescent
public import Idealize.ShloMosaic.Lib.Pipeline.ValueKit.Geometry

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-! ## The cells and the tokens -/

/-- The kernel's own semaphores, the barrier's apart. -/
def osem (k : Fin 16) : SemLoc sig := .dma (⟨6 + k.val, by omega⟩ : Fin 22)
theorem ownSemFacts : Pipeline.OwnSemFacts cfg0.spec osem := by decide

theorem csem_injective : Function.Injective csem := by decide
theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties a device pays: how far up the device of the cell is, the cell's semaphore, and the duty. -/
def tk (j : Fin 15) : Fin 4 × SemLoc sig × Fin 4 :=
  ([(1, .reg barS, neg 1), (2, .reg barS, neg 2), (3, .reg barS, neg 3),
    (0, .dma (sS 0 1), 0), (1, .dma (rS 0 1), 0), (0, .dma (sS 0 2), 0), (2, .dma (rS 0 2), 0), (0, .dma (sS 0 3), 0), (3, .dma (rS 0 3), 0),
    (0, .dma (sS 1 1), 0), (1, .dma (rS 1 1), 0), (0, .dma (sS 1 2), 0), (2, .dma (rS 1 2), 0), (0, .dma (sS 1 3), 0), (3, .dma (rS 1 3), 0)] : List (Fin 4 × SemLoc sig × Fin 4)).get (j.cast rfl)
theorem tk_injective : Function.Injective fun j => ((tk j).2.1, (tk j).2.2) := by decide
theorem sh_injective (r : Fin 4) : Function.Injective (sh r) := fun a b h => by rw [← sh_neg_sh r a, h, sh_neg_sh]
theorem sh_zero : sh 0 c = c := by revert c; decide

abbrev tokOf (cj : Dev nD × Fin 15) : GSem nD τ sig × ℕ × Fin 4 := (((sh (tk cj.2).1 cj.1 : Thread nD τ), (tk cj.2).2.1), 0, (tk cj.2).2.2)
theorem tokOf_injective : Function.Injective (tokOf : Dev nD × Fin 15 → GSem nD τ sig × ℕ × Fin 4) := by
  rintro ⟨c, j⟩ ⟨c', j'⟩ h
  have h2 : j = j' := tk_injective (congrArg (fun x : GSem nD τ sig × ℕ × Fin 4 => (x.1.2, x.2.2)) h)
  subst h2
  have h1 : sh (tk j).1 c = sh (tk j).1 c' := congrArg (fun x : GSem nD τ sig × ℕ × Fin 4 => x.1.1.1) h
  rw [sh_injective _ h1]
def allToks : Finset (GSem nD τ sig × ℕ × Fin 4) := Finset.univ.map ⟨tokOf, tokOf_injective⟩

omit [FloatOps F] in
theorem toks_list (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- A device's tokens are those it pays with. -/
theorem toks_pay : (bigSep Finset.univ fun j : Fin 15 => dutyTok ER (tokOf (c, j)).1 (tokOf (c, j)).2.1 (tokOf (c, j)).2.2 : sProp 𝕄) ⊢ payToks c := by
  rw [toks_list]
  have e (j : Fin 15) (b : Fin 2) (r : Fin 4) (h : tk j = (0, .dma (sS b r), 0)) :
      (dutyTok ER (tokOf (c, j)).1 (tokOf (c, j)).2.1 (tokOf (c, j)).2.2 : sProp 𝕄) = dutyTok ER (sendCell c b r) 0 0 := by
    unfold tokOf; dsimp only; rw [h, sh_zero]
  unfold payToks copyToks barTok
  rw [e 3 0 1 rfl, e 5 0 2 rfl, e 7 0 3 rfl, e 9 1 1 rfl, e 11 1 2 rfl, e 13 1 3 rfl]
  iintro ⟨H0, H1, H2, H3, H4, H5, H6, H7, H8, H9, H10, H11, H12, H13, H14⟩
  isplitl [H0 H1 H2]
  · isplitl [H0]; · iexact H0
    isplitl [H1]; · iexact H1
    iexact H2
  isplitl [H3 H4]
  · isplitl [H3]; · iexact H3
    iexact H4
  isplitl [H5 H6]
  · isplitl [H5]; · iexact H5
    iexact H6
  isplitl [H7 H8]
  · isplitl [H7]; · iexact H7
    iexact H8
  isplitl [H9 H10]
  · isplitl [H9]; · iexact H9
    iexact H10
  isplitl [H11 H12]
  · isplitl [H11]; · iexact H11
    iexact H12
  isplitl [H13]; · iexact H13
  iexact H14

def u₀ : UU := (initOf (Pipeline.cells cfgs cellOf_inj) (Pipeline.launchToks cfgs cellOf_inj), initOf allCells allToks)

/-- What each device is dealt at launch, -/
def G (c : Dev nD) : sProp 𝕄 :=
  iprop((bigSep Finset.univ fun k : Fin 17 => roundState ER (rd m) (kcell (c, k)) 0)
    ∗ (bigSep Finset.univ fun k : Fin 17 => iprop(atPos ER (kcell (c, k)) 0 ∅ 0 ∗ reached ER (kcell (c, k)) 0)) ∗ payToks c)
/-- and what the shared step makes of it. -/
def G' (c : Dev nD) : sProp 𝕄 := iprop(∃ K, records m K ∗ posns c ∗ payToks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => payToks c := by
    unfold allToks; rw [bigSep_map, bigSep_univ_prod]
    exact bigSep_mono fun c _ => toks_pay c
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores at launch and at the end -/

omit [FloatOps F] in
theorem cells_row (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
/-- All of a device's counters: the barrier's and the kernel's own. -/
theorem zeros_eq : (zeros c : sProp 𝕄)
    = iprop(unscopedSems0 c ∗ Pipeline.ownSems0 (Ix := Unit) (Name := ℕ) (U := UU) (Lvl := ℕ) (Val := Elt F) (τ := τ) osem c) := by
  unfold zeros
  rw [Pipeline.ownSems0_eq_of_list c osem [0, 1, 2, 3, 4, 5, 6, 7, 8, 9, 10, 11, 12, 13, 14, 15] (by decide) (by decide), cells_row]
  unfold unscopedSems0; rw [bigSep_eq_bigSepL_of_eq [SemLoc.reg barS] (by decide) (by decide)]; rfl

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ payToks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : Fin 17 => roundState ER (rd m) (kcell (c, k)) 0)
      ⊢ (|={Set.univ}=> bigSep Finset.univ fun k => iprop(∃ κ : ℕ, cellInv ER (rd m) κ (kcell (c, k))) : sProp 𝕄) from by
        unfold zeros
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ payToks c) : sProp 𝕄)
      ⊢ bigSep Finset.univ (G' m) := by
  rw [bigSep_sep', bigSep_sep', ← bigSep_univ_prod (fun ck : Dev nD × Fin 17 => iprop(∃ κ : ℕ, cellInv ER (rd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (rd m) κ (kcell ck) : sProp 𝕄))) $$ HI
  icases HK with ⟨%K, #HI⟩
  iapply (with_shared (R := records m K) (Φ := fun c => iprop(posns c ∗ payToks c)) fun c _ => show iprop(records m K ∗ posns c ∗ payToks c) ⊢ G' m c from by
    unfold G'; iintro H; iexists K; iexact H)
  isplitr
  · unfold records; isplitl; · iexact HI
    iexact HR
  · rw [bigSep_sep']
    unfold posns
    isplitl [Hat]; · iexact Hat
    iexact Htok

/-- The shared step: every cell of every device put under its invariant. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem recv_eq_iff {a c : Dev nD} {b b' : Fin 2} {r r' : Fin 4} : Iff (recvCell a b r = recvCell c b' r') (a = c ∧ b = b' ∧ r = r') :=
  ⟨fun h => ⟨congrArg (fun g : GSem nD τ sig => g.1.1) h, rS_inj (SemLoc.dma.inj (congrArg Prod.snd h))⟩, fun ⟨h1, h2, h3⟩ => by rw [h1, h2, h3]⟩
theorem bar_eq_iff {a c : Dev nD} : Iff (barCell a = barCell c) (a = c) := ⟨fun h => congrArg (fun g : GSem nD τ sig => g.1.1) h, fun h => by rw [h]⟩

/-- The copies of a list that device `d` owes a receive cell, -/
def owing (d c : Dev nD) (b : Fin 2) (r : Fin 4) : ℕ := (copies.map fun p => if c = sh p.2 d ∧ b = p.1 ∧ r = p.2 then 1 else 0).sum

theorem owS_bar (d c : Dev nD) (l : List (Fin 2 × Fin 4)) : owS d l (barCell c) () = 0 := by
  induction l with
  | nil => rfl
  | cons p l ih =>
    unfold owS
    rw [Pi.add_apply, Finsupp.add_apply, ih, tallyAt_ne_cell (fun h => by cases congrArg Prod.snd h), Finsupp.zero_apply, Nat.add_zero]
theorem owS_recv (d c : Dev nD) (b : Fin 2) (r : Fin 4) (l : List (Fin 2 × Fin 4)) :
    owS d l (recvCell c b r) () = (l.map fun p => if c = sh p.2 d ∧ b = p.1 ∧ r = p.2 then 1 else 0).sum * N := by
  induction l with
  | nil => simp only [List.map_nil, List.sum_nil, Nat.zero_mul]; rfl
  | cons p l ih =>
    unfold owS
    rw [Pi.add_apply, Finsupp.add_apply, ih, tallyAt_apply, List.map_cons, List.sum_cons, Nat.add_mul, Nat.add_comm]
    congr 1
    by_cases h : c = sh p.2 d ∧ b = p.1 ∧ r = p.2
    · rw [if_pos ⟨recv_eq_iff.mpr h, rfl⟩, if_pos h, Nat.one_mul]
    · rw [if_neg (fun h' => h (recv_eq_iff.mp h'.1)), if_neg h, Nat.zero_mul]
/-- and what it owes a barrier cell. -/
theorem owB_bar (d c : Dev nD) (l : List (Fin 4)) : owB d l (barCell c) () = (l.map fun r => if c = sh r d then 1 else 0).sum := by
  induction l with
  | nil => exact owS_bar d c copies
  | cons r l ih =>
    unfold owB
    rw [Pi.add_apply, Finsupp.add_apply, ih, tallyAt_apply, List.map_cons, List.sum_cons, Nat.add_comm]
    congr 1
    by_cases h : c = sh r d
    · rw [if_pos ⟨bar_eq_iff.mpr h, rfl⟩, if_pos h]
    · rw [if_neg (fun h' => h (bar_eq_iff.mp h'.1)), if_neg h]
theorem owB_recv (d c : Dev nD) (b : Fin 2) (r : Fin 4) (l : List (Fin 4)) : owB d l (recvCell c b r) () = owing d c b r * N := by
  induction l with
  | nil => exact owS_recv d c b r copies
  | cons r l ih =>
    unfold owB
    rw [Pi.add_apply, Finsupp.add_apply, ih, tallyAt_ne_cell (fun h => by cases congrArg Prod.snd h), Finsupp.zero_apply, Nat.add_zero]

theorem sum_bar : ∑ d : Dev nD, (([1, 2, 3] : List (Fin 4)).map fun r => if c = sh r d then 1 else 0).sum = 3 := by revert c; decide
theorem sum_recv (b : Fin 2) (r : Fin 4) (hr : r ≠ 0) : ∑ d : Dev nD, owing d c b r = 1 := by revert c b r; decide

theorem launch_bar :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => show O₀ d (barCell c) () = _ from owB_bar d c _, sum_bar]
theorem launch_recv (b : Fin 2) (r : Fin 4) (hr : r ≠ 0) :
    tallyOn (recvCell c b r) (launchCredit (Pipeline.owing O₀) 0 (recvCell c b r)) = (tallyAt (recvCell c b r) () N : CellTallies nD τ sig Unit) := by
  unfold tallyAt; refine congrArg _ (Finsupp.ext fun u => ?_); cases u
  rw [Pipeline.launchCredit_owing, Finsupp.single_eq_same, Finset.sum_congr rfl fun d _ => show O₀ d (recvCell c b r) () = _ from owB_recv d c b r _,
    ← Finset.sum_mul, sum_recv c b r hr, Nat.one_mul]

omit [FloatOps F] in
theorem first_last (P Q R S : sProp 𝕄) : iprop(P ∗ Q ∗ R ∗ S) ⊢ iprop(P ∗ S) := by
  iintro ⟨H, -, -, Hs⟩
  isplitl [H] <;> iassumption

theorem creds_intro : (Pipeline.launchCred O₀ c : sProp 𝕄) ⊢ creds c := by
  unfold Pipeline.launchCred
  refine (bigSep_subset (Finset.subset_univ (Finset.univ.map ⟨csem, csem_injective⟩))).trans ?_
  rw [bigSep_map, cells_list]
  have e (b : Fin 2) (r : Fin 4) (hr : r ≠ 0) : (cred (tallyOn ((c.tc : Thread nD τ), csem (kR b r)) (launchCredit (Pipeline.owing O₀) 0 ((c.tc : Thread nD τ), csem (kR b r)))) : sProp 𝕄)
      = cred (tallyAt (recvCell c b r) () N) := by rw [csem_recv, launch_recv c b r hr]
  have e0 : (cred (tallyOn ((c.tc : Thread nD τ), csem 0) (launchCredit (Pipeline.owing O₀) 0 ((c.tc : Thread nD τ), csem 0))) : sProp 𝕄)
      = cred (tallyAt (barCell c) () 3) := by rw [csem_bar, launch_bar]
  simp only [Function.Embedding.coeFn_mk]
  rw [e 0 1 (by decide), e 0 2 (by decide), e 0 3 (by decide), e 1 1 (by decide), e 1 2 (by decide), e 1 3 (by decide), e0]
  unfold creds
  exact first_last _ _ _ _

/-! ## The launch's side conditions -/

variable (ρ : Dev nD → PrngReg)

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨Hr, Hu, Ho⟩
  isplitl [Hu]; · iexact Hu
  isplitl [Ho]; · iexact Ho
  iexact Hr

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (w : Fin cfg0.W) : (dats m ρ 0 c).share w = fullShare := by unfold Dat.share; split <;> rfl

/-! ## The run -/

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values and from any memory with zero counters, every fair execution ends, with each device's
arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m c ρ) (hne := fun w => by fin_cases w <;> exact Nat.succ_pos _) (harr := arr_whole0) (hstage := stage_whole0) (hshare := fun c => share_eq m c ρ)
    (hdistinct := winFacts0.arr_inj)
    (O₀ := O₀) (howed₀ := fun _ => rfl) (howedN := fun _ => rfl)
    (L := L) (lv := lv) (hL := L_of_ne) (hwaits := fun c => waits m c ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := fun c => start_intro m c ρ) (hin := fun c => phi0_intro m c ρ) (hout := fun c => phi1_exit m c ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds at the end what it held. -/
theorem final_in (w : Fin cfg0.W) (hw : w ≠ 5) : finalA m ρ c w = (s₀ m ρ).mem ((cfg0.win w).arr.view.loc (c : Thread nD τ)) :=
  (dats (F := F) m ρ 0 c).arrAt_in w (by revert w; decide) _

/-- A block that is its whole array, read: the array. -/
theorem outA_final : finalA m ρ c (5 : Fin 6) = outA m c :=
  (dats (F := F) m ρ 0 c).arrAt_eq_of_after_last (5 : Fin 6) t0_0 (by decide +kernel) (outA m c) fun _ => rfl
theorem xA_eq : xA m c = m ((c : Thread nD τ).loc main_arg0) := by
  funext i; exact congrArg (m ((c : Thread nD τ).loc main_arg0)) (funext fun a => Fin.ext (by fin_cases a <;> show 0 + 1 * _ = _ <;> omega))

/-- The run, read at the arguments, the result and the counters. -/
theorem run_read : θ_run defs (onTc (τ := τ) (main (F := F))) ⟨m, fun _ => 0, ρ⟩ (fun r => (∀ c : Dev nD,
      r.2.mem ((c : Thread nD τ).loc main_v1) = outA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c 5).trans (outA_final m c ρ), (h.1 c 0).trans (final_in m c ρ 0 (by decide)),
      (h.1 c 1).trans (final_in m c ρ 1 (by decide)), (h.1 c 2).trans (final_in m c ρ 2 (by decide)),
      (h.1 c 3).trans (final_in m c ρ 3 (by decide)), (h.1 c 4).trans (final_in m c ρ 4 (by decide))⟩, h.2⟩)
    (run_main m ρ)

end Cert.AttnProof

end
-- ==== Proof.Mask.lean ====
/-
# Which keys a query may look at

Both programs compute the same mask from the row and column numbers: query `i` may look at key `j` when the two lie in
the same block of 64, or when their block numbers leave the same remainder by four; with four blocks the two conditions
are one. The kernel turns the mask into factors one and zero; the reference keeps it as a truth value.
-/
module

public import proofs.«01_k».proof.Proof.Contents
public import proofs.«01_k».proof.Proof.Gen.ReferenceIdeal.Read
public import Idealize.ShloMosaic.Lib.ValueIdx
public import Idealize.ShloMosaic.Lib.IdealHost

@[expose] public section

noncomputable section

namespace Cert.AttnProof

open Idealize.ShloMosaic Idealize.ShloMosaic.ValueIdx

/-- Query `i` and key `j` lie in one block of 64. -/
abbrev keep (i j : Fin 256) : Prop := i.val / 64 = j.val / 64

/-! ## The literals -/

/-- The scale, one eighth, -/
theorem eighth_ofBits : FloatOps.ofBits (F := Ideal) .f32 0x3E000000#32 = ((1 / 8 : ℝ) : EReal) := by
  show Ideal.ofBits .f32 0x3E000000#32 = _
  simp [Ideal.ofBits, Ideal.ieee, -EReal.coe_mul]; norm_num
/-- and the lowest value. -/
theorem bot_ofBits : FloatOps.ofBits (F := Ideal) .f32 0xFF800000#32 = (⊥ : EReal) := by
  show Ideal.ofBits .f32 0xFF800000#32 = _
  simp [Ideal.ofBits, Ideal.ieee]

/-! ## The words -/

/-- A word's sign as the kernel computes it, -/
def sgnK (x : BitVec 32) : BitVec 32 :=
  IntOp.subi ((IntOp.cmpi .sgt x 0#32).setWidth 32) ((IntOp.cmpi .slt x 0#32).setWidth 32)
/-- and as the reference does. -/
def sgnR (x : BitVec 32) : BitVec 32 := if x = 0 then 0 else if x.msb then -1 else 1

/-- The quotient by 64 rounded down, from the quotient rounded towards zero, the remainder and the two signs. -/
def quot64 (u : ArithUnit) (sg : BitVec 32 → BitVec 32) (x : BitVec 32) : BitVec 32 :=
  Scalar.select (IntOp.andi (IntOp.cmpi .ne (sg x) (sg 64#32)) (IntOp.cmpi .ne (IntOp.remsi u x 64#32) 0#32))
    (IntOp.subi (IntOp.divsi u x 64#32) 1#32) (IntOp.divsi u x 64#32)

/-- The remainder by four with the divisor's sign. -/
def rem4 (u : ArithUnit) (x : BitVec 32) : BitVec 32 :=
  let d := Scalar.select (IntOp.cmpi .eq 4#32 0#32) 1#32 4#32
  let r := IntOp.remsi u x d
  Scalar.select (IntOp.andi (IntOp.xori (IntOp.cmpi .slt r 0#32) (IntOp.cmpi .slt d 0#32)) (IntOp.cmpi .ne r 0#32)) (IntOp.addi r d) r

/-- The mask of a query's and a key's block number. -/
def maskWord (u : ArithUnit) (a b : BitVec 32) : BitVec 1 :=
  IntOp.ori (IntOp.cmpi .eq a b) (IntOp.cmpi .eq (rem4 u b) (rem4 u a))

/-- Two bits differ when their exclusive or is one. -/
theorem ne_bits : ∀ a b : BitVec 1, IntOp.cmpi .ne a b = IntOp.xori a b := by decide

theorem quot64_vector : ∀ n : Fin 256, quot64 .vector sgnK (BitVec.ofNat 32 n.val) = BitVec.ofNat 32 (n.val / 64) := by decide +kernel
theorem quot64_host : ∀ n : Fin 256, quot64 .host sgnR (BitVec.ofNat 32 n.val) = BitVec.ofNat 32 (n.val / 64) := by decide +kernel

theorem maskWord_blocks : ∀ (h : Bool) (a b : Fin 4),
    maskWord (cond h .host .vector) (BitVec.ofNat 32 a.val) (BitVec.ofNat 32 b.val) = BitVec.ofBool (decide (a.val = b.val)) := by
  decide +kernel

/-- The mask of two positions. -/
theorem maskWord_eq (h : Bool) (i j : Fin 256) :
    maskWord (cond h .host .vector) (BitVec.ofNat 32 (i.val / 64)) (BitVec.ofNat 32 (j.val / 64)) = BitVec.ofBool (decide (keep i j)) :=
  maskWord_blocks h ⟨i.val / 64, by omega⟩ ⟨j.val / 64, by omega⟩

/-! ## The two masks -/

/-- The kernel's mask is one where the query may look and zero elsewhere. -/
theorem maskV_apply (i j : Fin 256) : maskV (F := Ideal) (ix2 i j) = if keep i j then (1 : EReal) else 0 := by
  have e : maskV (F := Ideal) (ix2 i j)
      = Scalar.select (maskWord .vector
            (quot64 .vector sgnK (iota .tc Cert.KernelIdeal.S256x256 32 [0] Cert.KernelIdeal.Gen.iota_S256x256_d0_w32 (ix2 i j)))
            (quot64 .vector sgnK (iota .tc Cert.KernelIdeal.S256x256 32 [1] Cert.KernelIdeal.Gen.iota_S256x256_d1_w32 (ix2 i j))))
          (FloatOps.ofBits (F := Ideal) .f32 0x3F800000#32) (FloatOps.ofBits (F := Ideal) .f32 0x00000000#32) := rfl
  have e0 : iota .tc Cert.KernelIdeal.S256x256 32 [0] Cert.KernelIdeal.Gen.iota_S256x256_d0_w32 (ix2 i j) = BitVec.ofNat 32 i.val := iota_single_apply ..
  have e1 : iota .tc Cert.KernelIdeal.S256x256 32 [1] Cert.KernelIdeal.Gen.iota_S256x256_d1_w32 (ix2 i j) = BitVec.ofNat 32 j.val := iota_single_apply ..
  rw [e, e0, e1, quot64_vector, quot64_vector, show maskWord .vector _ _ = _ from maskWord_eq false i j, show FloatOps.ofBits (F := Ideal) .f32 0x3F800000#32 = (1 : EReal) from Ideal.ofBits_one_f32,
    show FloatOps.ofBits (F := Ideal) .f32 0x00000000#32 = (0 : EReal) from Ideal.ofBits_zero_f32]
  by_cases h : keep i j
  · rw [decide_eq_true h, if_pos h]; rfl
  · rw [decide_eq_false h, if_neg h]; rfl

section Reference
open Cert.ReferenceIdeal.Read

/-- The reference's block number of a query, -/
theorem quotR_row (i : Cert.ReferenceIdeal.S256.Idx) : val_main_v3 (F := Ideal) i = quot64 .host sgnR (BitVec.ofNat 32 (i 0).val) := by
  rw [val_main_v3_apply, val_main_call0_v11_apply, val_main_call0_v6_apply, val_main_call0_v5_apply, val_main_call0_v10_apply, val_main_call0_v8_apply,
    val_main_call0_v9_apply, val_main_call0_v13_apply, val_main_call0_v12_apply, val_main_call0_v2_apply, val_main_call0_v7_apply, val_main_call0_v1_apply]
  rfl

/-- and of a key. -/
theorem quotR_col (i : Cert.ReferenceIdeal.S256.Idx) : val_main_v6 (F := Ideal) i = quot64 .host sgnR (BitVec.ofNat 32 (i 0).val) := by
  rw [val_main_v6_apply, val_main_call1_v11_apply, val_main_call1_v6_apply, val_main_call1_v5_apply, val_main_call1_v10_apply, val_main_call1_v8_apply,
    val_main_call1_v9_apply, val_main_call1_v13_apply, val_main_call1_v12_apply, val_main_call1_v2_apply, val_main_call1_v7_apply, val_main_call1_v1_apply]
  rfl

/-- The remainder of a key's block number, -/
theorem remR_col (i : Cert.ReferenceIdeal.S1x256.Idx) : val_main_v11 (F := Ideal) i = rem4 .host (val_main_v7 (F := Ideal) i) := by
  rw [val_main_v11_apply, val_main_call2_v12_apply, val_main_call2_v11_apply, val_main_call2_v10_apply, val_main_call2_v8_apply, val_main_call2_v7_apply,
    val_main_call2_v6_apply, val_main_call2_v5_apply, val_main_call2_v14_apply, val_main_call2_v13_apply, val_main_call2_v4_apply, val_main_call2_v3_apply]
  rw [ne_bits]
  rfl

/-- and of a query's. -/
theorem remR_row (i : Cert.ReferenceIdeal.S256x1.Idx) : val_main_v12 (F := Ideal) i = rem4 .host (val_main_v4 (F := Ideal) i) := by
  rw [val_main_v12_apply, val_main_call3_v12_apply, val_main_call3_v11_apply, val_main_call3_v10_apply, val_main_call3_v8_apply, val_main_call3_v7_apply,
    val_main_call3_v6_apply, val_main_call3_v5_apply, val_main_call3_v14_apply, val_main_call3_v13_apply, val_main_call3_v4_apply, val_main_call3_v3_apply]
  rw [ne_bits]
  rfl

/-- The reference's mask is the truth value of the same. -/
theorem maskR_apply (i j : Fin 256) : val_main_v16 (F := Ideal) (ix2 i j) = BitVec.ofBool (decide (keep i j)) := by
  have e : val_main_v16 (F := Ideal) (ix2 i j)
      = maskWord .host (quot64 .host sgnR (BitVec.ofNat 32 i.val)) (quot64 .host sgnR (BitVec.ofNat 32 j.val)) := by
    rw [val_main_v16_apply, val_main_v15_apply, val_main_v13_apply, val_main_v14_apply, remR_col, remR_row, val_main_v10_apply, val_main_v8_apply,
      val_main_v9_apply, val_main_v7_apply, val_main_v4_apply, quotR_row, quotR_col]
    rfl
  rw [e, quot64_host, quot64_host]; exact maskWord_eq true i j

end Reference

end Cert.AttnProof

end
-- ==== Proof.Softmax.lean ====
/-
# The softmax with and without its maximum

Two ways to weigh values by a masked softmax agree over the extended reals when the scores are real: the kernel's, which
sums the exponentials times the mask and multiplies the sum of weighted values by the reciprocal once; and the
reference's, which sends the masked scores to −∞, subtracts the row's maximum, and divides each weight. The values
themselves may be infinite: a positive real factor passes through every sum.
-/
module

public import Idealize.ShloMosaic.PureOps.Ideal
public import Idealize.ShloMosaic.PureOps.Ideal.Laws
public import Idealize.ShloMosaic.Lib.IdealHost

@[expose] public section

noncomputable section

namespace Cert.AttnProof

open Idealize.ShloMosaic
open scoped BigOperators

variable {ι : Type} [Fintype ι]

/-- A finite sum of reals, read among the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor passes through a sum of extended reals. -/
theorem sum_mul_coe (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- The weight of a score: its exponential where the mask lets it through, and zero elsewhere. -/
def wt (p : Prop) [Decidable p] (x : ℝ) : ℝ := if p then Real.exp x else 0

theorem wt_nonneg (p : Prop) [Decidable p] (x : ℝ) : 0 ≤ wt p x := by
  unfold wt; split
  · exact (Real.exp_pos x).le
  · exact le_rfl

/-- The kernel's weight: the exponential times the mask. -/
theorem exp_mul_mask (p : Prop) [Decidable p] (x : ℝ) :
    Ideal.exp (x : EReal) * (if p then (1 : EReal) else 0) = (wt p x : EReal) := by
  unfold wt; split
  · rw [mul_one, Ideal.exp_coe]
  · rw [mul_zero, EReal.coe_zero]

/-- The reference's weight: the exponential of the masked score less a real, that real's exponential taken out. -/
theorem exp_masked_sub (p : Prop) [Decidable p] (x μ : ℝ) :
    Ideal.exp ((if p then (x : EReal) else ⊥) - (μ : EReal)) = ((wt p x * Real.exp (-μ) : ℝ) : EReal) := by
  unfold wt; split
  · rw [← EReal.coe_sub, Ideal.exp_coe, sub_eq_add_neg, Real.exp_add]
  · rw [EReal.bot_sub, Ideal.exp_bot, zero_mul, EReal.coe_zero]

/-- The maximum of masked real scores, one of them let through, is real. -/
theorem fold_max_real (p : ι → Prop) [DecidablePred p] (x : ι → ℝ) (h : ∃ j, p j) :
    ∃ μ : ℝ, Finset.univ.fold max (⊥ : EReal) (fun j => if p j then (x j : EReal) else ⊥) = μ := by
  obtain ⟨j, hj⟩ := h
  set M := Finset.univ.fold max (⊥ : EReal) (fun j => if p j then (x j : EReal) else ⊥) with hM
  have hlo : M ≠ ⊥ := fun e => by
    have : (x j : EReal) ≤ M := hM ▸ (Finset.le_fold_max _).2 (Or.inr ⟨j, Finset.mem_univ j, by rw [if_pos hj]⟩)
    rw [e, le_bot_iff] at this
    exact EReal.coe_ne_bot _ this
  have hhi : M ≠ ⊤ := (lt_top_iff_ne_top).1 (hM ▸ (Finset.fold_max_lt _).2 ⟨bot_lt_top, fun k _ => by
    by_cases hk : p k
    · rw [if_pos hk]; exact EReal.coe_lt_top _
    · rw [if_neg hk]; exact bot_lt_top⟩)
  exact ⟨M.toReal, (EReal.coe_toReal hhi hlo).symm⟩

/-- **The two softmaxes agree.** Real scores, at least one let through, and any values. -/
theorem softmax_eq (p : ι → Prop) [DecidablePred p] (x : ι → ℝ) (v : ι → EReal) (h : ∃ j, p j) :
    (∑ j, Ideal.exp (x j : EReal) * (if p j then (1 : EReal) else 0) * v j)
        * Ideal.div 1 (∑ j, Ideal.exp (x j : EReal) * (if p j then (1 : EReal) else 0))
      = ∑ j, v j * Ideal.div
          (Ideal.exp ((if p j then (x j : EReal) else ⊥) - Finset.univ.fold max ⊥ fun k => if p k then (x k : EReal) else ⊥))
          (0 + ∑ j, Ideal.exp ((if p j then (x j : EReal) else ⊥) - Finset.univ.fold max ⊥ fun k => if p k then (x k : EReal) else ⊥)) := by
  obtain ⟨μ, hμ⟩ := fold_max_real p x h
  have hS : 0 < ∑ j, wt (p j) (x j) := by
    obtain ⟨j, hj⟩ := h
    refine Finset.sum_pos' (fun i _ => wt_nonneg _ _) ⟨j, Finset.mem_univ j, ?_⟩
    unfold wt; rw [if_pos hj]; exact Real.exp_pos _
  set S := ∑ j, wt (p j) (x j) with hSd
  have hZ : (S * Real.exp (-μ)) ≠ 0 := (mul_pos hS (Real.exp_pos _)).ne'
  simp only [hμ, exp_mul_mask, exp_masked_sub, ← coe_sum, zero_add, ← Finset.sum_mul, ← hSd]
  rw [Ideal.div_coe hS.ne', one_mul, sum_mul_coe _ _ (one_div_pos.2 hS).le]
  refine Finset.sum_congr rfl fun j _ => ?_
  rw [Ideal.div_coe hZ, ← EReal.coe_mul, mul_comm (wt (p j) (x j) : EReal) (v j), mul_assoc, ← EReal.coe_mul]
  congr 2
  have := Real.exp_pos (-μ)
  field_simp

/-- A score of real queries and keys, scaled by `c` before or after the keys are met, is the one real. -/
theorem score_scaled {κ : Type} [Fintype κ] (q : ι → κ → ℝ) (w : κ → ι → ℝ) (k : ι → ℝ) (c : ℝ) :
    (∑ e, ((∑ d, (q e d : EReal) * (w d e : EReal)) * (c : EReal)) * (k e : EReal))
      = ((∑ e, (∑ d, q e d * w d e) * k e) * c : ℝ) := by
  simp only [← EReal.coe_mul, ← coe_sum]
  congr 1
  rw [Finset.sum_mul]
  exact Finset.sum_congr rfl fun e _ => by ring

/-- The same, scaled last. -/
theorem score_scaled_last {κ : Type} [Fintype κ] (q : ι → κ → ℝ) (w : κ → ι → ℝ) (k : ι → ℝ) (c : ℝ) :
    (∑ e, (∑ d, (q e d : EReal) * (w d e : EReal)) * (k e : EReal)) * (c : EReal)
      = ((∑ e, (∑ d, q e d * w d e) * k e) * c : ℝ) := by
  simp only [← EReal.coe_mul, ← coe_sum]

end Cert.AttnProof

end
-- ==== Proof.Context.lean ====
/-
# The kernel's context at an element

Every head of every batch entry is one computation, `headV`: the kernel prints it eight times, and each printing is it
by definition. At the ideal values its element is a closed formula of the scores, the mask and the values; a row of the
context is the four heads laid side by side.
-/
module

public import proofs.«01_k».proof.Proof.Mask
public import proofs.«01_k».proof.Proof.Softmax
public import Idealize.ShloMosaic.Lib.MatmulPlain
public import Idealize.ShloMosaic.Lib.Pipeline.Value

@[expose] public section

noncomputable section

namespace Cert.AttnProof

open Cert.KernelIdeal Cert.KernelIdeal.Gen
open Idealize.ShloMosaic Idealize.ShloMosaic.TcCoe Idealize.ShloMosaic.ValueIdx
open Idealize.SL Idealize.SL.Sem
open scoped BigOperators

/-! ## One head -/

theorem sliceOk (h : Fin 4) : S256x256.Slices ![0, 64 * h.val] S256x64 := by revert h; decide

/-- The queries of a batch entry: the block of `x` times the columns of the projection, scaled. -/
def qV (wq : FVec Ideal S512x256 .f32) (x : Vec Ideal S1x256x512 .f32) : FVec Ideal S256x256 .f32 :=
  mulf (matmul (φ₁ := .f32) (φ₂ := .f32) dot_S256x512_S512x256_S256x256_1_0_0_1_n_n none (shapeCast S256x512 x shapeCasts_S1x256x512_S256x512) wq (constant S256x256 .f32 0x00000000#32))
    (broadcast S256x256 (Scalar.ofBits .f32 0x3E000000#32))

/-- The scores of a head, -/
def scoreV (q : FVec Ideal S256x256 .f32) (h : Fin 4) (k : Vec Ideal S1x256x1x64 .f32) : FVec Ideal S256x256 .f32 :=
  matmul (φ₁ := .f32) (φ₂ := .f32) dot_S256x64_S256x64_S256x256_1_1_0_0_n_n none (extractStridedSlice S256x64 ![0, 64 * h.val] q (sliceOk h))
    (shapeCast S256x64 k shapeCasts_S1x256x1x64_S256x64) (constant S256x256 .f32 0x00000000#32)

/-- its weights, -/
def weightV (q : FVec Ideal S256x256 .f32) (h : Fin 4) (k : Vec Ideal S1x256x1x64 .f32) : FVec Ideal S256x256 .f32 :=
  mulf (exp (scoreV q h k)) (maskV (F := Ideal))

/-- the reciprocals of the weights' sums, -/
def recipV (w : FVec Ideal S256x256 .f32) : FVec Ideal S256x1 .f32 :=
  divf (broadcast S256x1 (Scalar.ofBits .f32 0x3F800000#32))
    (shapeCast S256x1 (multiReduction .add [1] S256 w 0x00000000#32 reduces_S256x256_S256 (.inl rfl) rfl) shapeCasts_S256_S256x1)

/-- and its block of the context. -/
def headV (q : FVec Ideal S256x256 .f32) (h : Fin 4) (k v : Vec Ideal S1x256x1x64 .f32) : FVec Ideal S256x64 .f32 :=
  mulf (matmul (φ₁ := .f32) (φ₂ := .f32) dot_S256x256_S256x64_S256x64_1_0_0_1_n_n none (weightV q h k) (shapeCast S256x64 v shapeCasts_S1x256x1x64_S256x64) (constant S256x64 .f32 0x00000000#32))
    (broadcastTo S256x64 (recipV (weightV q h k)) broadcasts_S256x1_S256x64)

/-- Four heads side by side. -/
def catV (f : Fin 4 → FVec Ideal S256x64 .f32) : FVec Ideal S256x256 .bf16 :=
  shapeCast S256x256 (truncf .bf16 (concatenate S256x256 1 [⟨S256x64, f 0⟩, ⟨S256x64, f 1⟩, ⟨S256x64, f 2⟩, ⟨S256x64, f 3⟩]
    concatenates_S256x64_S256x64_S256x64_S256x64_S256x256_d1) bitsLt_bf16_f32) shapeCasts_S256x256_S256x256

/-! ## A head at an element -/

theorem qV_apply (wq : FVec Ideal S512x256 .f32) (x : Vec Ideal S1x256x512 .f32) (i k : Fin 256) :
    qV wq x (ix2 i k) = (∑ d : Fin 512, x (ix3 0 i d) * wq (ix2 d k)) * ((1 / 8 : ℝ) : EReal) := by
  have e := Ideal.matmul_plain_apply (M := 256) (K := 512) (N := 256) (φ₁ := .f32) (φ₂ := .f32) none (shapeCast S256x512 x shapeCasts_S1x256x512_S256x512) wq (constant S256x256 .f32 0x00000000#32) i k
  rw [show (constant (F := Ideal) S256x256 .f32 0x00000000#32) (ix2 i k) = (0 : EReal) from Ideal.ofBits_zero_f32, zero_add] at e
  refine (congrArg₂ (· * ·) e eighth_ofBits).trans ?_
  refine congrArg (· * _) (Finset.sum_congr rfl fun d _ => congrArg (· * _) ?_)
  exact shapeCast_apply x shapeCasts_S1x256x512_S256x512 _ (ix3 0 i d) (by
    rw [Shape.rowMajor_val_two, Shape.rowMajor_val_three]; show (0 * 256 + i.val) * 512 + d.val = i.val * 512 + d.val; omega)

theorem dropHead (k : Vec Ideal S1x256x1x64 .f32) (j : Fin 256) (e : Fin 64) :
    shapeCast S256x64 k shapeCasts_S1x256x1x64_S256x64 (ix2 j e) = k (ix4 0 j 0 e) :=
  shapeCast_apply k shapeCasts_S1x256x1x64_S256x64 _ (ix4 0 j 0 e) (by
    rw [Shape.rowMajor_val_two, Shape.rowMajor_val_four]; show ((0 * 256 + j.val) * 1 + 0) * 64 + e.val = j.val * 64 + e.val; omega)

set_option backward.proofsInPublic true in
/-- Column `e` of head `h`. -/
def col (h : Fin 4) (e : Fin 64) : Fin 256 := ⟨64 * h.val + e.val, by omega⟩

theorem scoreV_apply (q : FVec Ideal S256x256 .f32) (h : Fin 4) (k : Vec Ideal S1x256x1x64 .f32) (i j : Fin 256) :
    scoreV q h k (ix2 i j) = ∑ e : Fin 64, q (ix2 i (col h e)) * k (ix4 0 j 0 e) := by
  have E := Ideal.matmul_transposedRhs_apply (M := 256) (K := 64) (N := 256) (φ₁ := .f32) (φ₂ := .f32) none
    (extractStridedSlice S256x64 ![0, 64 * h.val] q (sliceOk h)) (shapeCast S256x64 k shapeCasts_S1x256x1x64_S256x64) (constant S256x256 .f32 0x00000000#32) i j
  rw [show (constant (F := Ideal) S256x256 .f32 0x00000000#32) (ix2 i j) = (0 : EReal) from Ideal.ofBits_zero_f32, zero_add] at E
  refine E.trans (Finset.sum_congr rfl fun e _ => congrArg₂ (· * ·) ?_ (dropHead k j e))
  exact extractStridedSlice_apply _ q (sliceOk h) _ (ix2 i (col h e)) fun a => by
    match a with
    | ⟨0, _⟩ => show i.val = 0 + i.val; omega
    | ⟨1, _⟩ => rfl

theorem weightV_apply (q : FVec Ideal S256x256 .f32) (h : Fin 4) (k : Vec Ideal S1x256x1x64 .f32) (i j : Fin 256) :
    weightV q h k (ix2 i j) = Ideal.exp (∑ e : Fin 64, q (ix2 i (col h e)) * k (ix4 0 j 0 e)) * (if keep i j then (1 : EReal) else 0) := by
  rw [← scoreV_apply, ← maskV_apply]; rfl

theorem recipV_apply (w : FVec Ideal S256x256 .f32) (i : Fin 256) (z : Fin 1) :
    recipV w (ix2 i z) = Ideal.div 1 (∑ j : Fin 256, w (ix2 i j)) := by
  have e : shapeCast S256x1 (multiReduction .add [1] S256 w 0x00000000#32 reduces_S256x256_S256 (.inl rfl) rfl) shapeCasts_S256_S256x1 (ix2 i z)
      = ∑ j : Fin 256, w (ix2 i j) := by
    refine (shapeCast_apply _ shapeCasts_S256_S256x1 _ (ix1 i) (by
      rw [Shape.rowMajor_val_two, Shape.rowMajor_val_one]; show i.val = i.val * 1 + z.val; omega)).trans ?_
    refine (Ideal.multiReduction_add_single w 0x00000000#32 reduces_S256x256_S256 (.inl rfl) rfl (ix1 i)).trans ?_
    refine Finset.sum_congr rfl fun j _ => congrArg w ?_
    funext a
    apply Fin.ext
    match a with
    | ⟨0, _⟩ => rfl
    | ⟨1, _⟩ => rfl
  exact congrArg₂ Ideal.div Ideal.ofBits_one_f32 e

/-- **A head's element.** -/
theorem headV_apply (q : FVec Ideal S256x256 .f32) (h : Fin 4) (k v : Vec Ideal S1x256x1x64 .f32) (i : Fin 256) (e : Fin 64) :
    headV q h k v (ix2 i e) = (∑ j : Fin 256, weightV q h k (ix2 i j) * v (ix4 0 j 0 e)) * Ideal.div 1 (∑ j : Fin 256, weightV q h k (ix2 i j)) := by
  have E := Ideal.matmul_plain_apply (M := 256) (K := 256) (N := 64) (φ₁ := .f32) (φ₂ := .f32) none (weightV q h k)
    (shapeCast S256x64 v shapeCasts_S1x256x1x64_S256x64) (constant S256x64 .f32 0x00000000#32) i e
  rw [show (constant (F := Ideal) S256x64 .f32 0x00000000#32) (ix2 i e) = (0 : EReal) from Ideal.ofBits_zero_f32, zero_add] at E
  refine congrArg₂ (· * ·) (E.trans (Finset.sum_congr rfl fun j _ => congrArg (_ * ·) (dropHead v j e))) ?_
  refine (broadcastTo_apply _ broadcasts_S256x1_S256x64 _ (ix2 i 0) fun a => ?_).trans (recipV_apply _ i 0)
  match a with
  | ⟨0, _⟩ => rfl
  | ⟨1, _⟩ => rfl

/-- A column of the context is a column of a head. -/
theorem catV_apply (f : Fin 4 → FVec Ideal S256x64 .f32) (i : Fin 256) (h : Fin 4) (e : Fin 64) : catV f (ix2 i (col h e)) = f h (ix2 i e) := by
  unfold catV
  rw [shapeCast_self]
  refine concatenate_ofFn_apply (t := S256x256) (s₁ := S256x64) 1 (N := 4) f concatenates_S256x64_S256x64_S256x64_S256x64_S256x256_d1 rfl 64 rfl (ix2 i (col h e)) h ?_ (ix2 i e) ?_ ?_
  · show (64 * h.val + e.val) / 64 = h.val; omega
  · show e.val = (64 * h.val + e.val) % 64; omega
  · intro b hb
    match b with
    | ⟨0, _⟩ => rfl
    | ⟨1, _⟩ => exact absurd rfl hb

/-! ## The context -/

section Values

variable (m : (ℓ : Loc nD τ sig) → Buf (Elt Ideal) ℓ)

theorem xIn (b : Fin 2) : ∀ a, (![b.val, 0, 0] : Fin 3 → Nat) a + S1x256x512.size a ≤ S2x256x512.size a := by revert b; decide
theorem kvIn (b : Fin 2) (h : Fin 4) : ∀ a, (![b.val, 0, h.val, 0] : Fin 4 → Nat) a + S1x256x1x64.size a ≤ S2x256x4x64.size a := by revert b h; decide

/-- The context of batch entry `b` as four heads. -/
def ctxV (b : Fin 2) (c : Dev nD) : FVec Ideal S256x256 .bf16 :=
  catV fun h => headV (qV (wqV m c) (ldX ![b.val, 0, 0] (xIn b) (xA m c))) h (ldK ![b.val, 0, h.val, 0] (kvIn b h) (kA m c)) (ldV ![b.val, 0, h.val, 0] (kvIn b h) (vA m c))

theorem ctxB_eq (b : Fin 2) (c : Dev nD) : ctxB m b c = ctxV m b c := by
  match b with
  | 0 => exact rfl
  | 1 => exact rfl

end Values

end Cert.AttnProof

end
-- ==== Proof.RefRead.lean ====
/-
# The reference's context at an element

The reference works on all sixteen heads at once. Element by element, its context is the softmax of the masked scores
with the row's maximum taken out: every row has a key let through — the query's own position —, so the guards for an
empty row never act.
-/
module

public import proofs.«01_k».proof.Proof.Mask
public import Idealize.ShloMosaic.PureOps.Reduce
public import Idealize.ShloMosaic.Lib.Pipeline.Value

@[expose] public section

noncomputable section

namespace Cert.AttnProof

open Cert.ReferenceIdeal Cert.ReferenceIdeal.Gen Cert.ReferenceIdeal.Read
open Idealize.ShloMosaic Idealize.ShloMosaic.ValueIdx
open scoped BigOperators

set_option backward.proofsInPublic true in
/-- Column `e` of head `h`, among all sixteen heads. -/
def gcol (h : Fin 16) (e : Fin 64) : Fin 1024 := ⟨64 * h.val + e.val, by omega⟩

variable (x0 : (⟨S2x256x512, .f32⟩ : BufTy).Contents (Elt Ideal)) (x1 : (⟨S512x1024, .f32⟩ : BufTy).Contents (Elt Ideal))
  (x2 x3 : (⟨S2x256x16x64, .f32⟩ : BufTy).Contents (Elt Ideal)) (x4 : (⟨S1024x512, .f32⟩ : BufTy).Contents (Elt Ideal))

/-- The score of a query and a key under a head. -/
def scoreR (b : Fin 2) (h : Fin 16) (i j : Fin 256) : EReal :=
  (∑ e : Fin 64, (∑ d : Fin 512, x0 (ix3 b i d) * x1 (ix2 d (gcol h e))) * x2 (ix4 b j h e)) * ((1 / 8 : ℝ) : EReal)

/-- The score, −∞ where the mask forbids. -/
def maskedR (b : Fin 2) (h : Fin 16) (i j : Fin 256) : EReal := if keep i j then scoreR x0 x1 x2 b h i j else ⊥

/-- The row's maximum. -/
def maxR (b : Fin 2) (h : Fin 16) (i : Fin 256) : EReal := Finset.univ.fold max ⊥ fun j => maskedR x0 x1 x2 b h i j

theorem v1_read (b : Fin 2) (i : Fin 256) (h : Fin 16) (e : Fin 64) :
    val_main_v1 (F := Ideal) x0 x1 (ix4 b i h e) = ∑ d : Fin 512, x0 (ix3 b i d) * x1 (ix2 d (gcol h e)) := by
  have ei : idx_main_v1 (ix4 b i h e) = ix3 b i (gcol h e) := funext fun a => Fin.ext (by
    match a with
    | ⟨0, _⟩ => show (((b.val * 256 + i.val) * 16 + h.val) * 64 + e.val) / 262144 = b.val; omega
    | ⟨1, _⟩ => show (((b.val * 256 + i.val) * 16 + h.val) * 64 + e.val) / 1024 % 256 = i.val; omega
    | ⟨2, _⟩ => show (((b.val * 256 + i.val) * 16 + h.val) * 64 + e.val) % 1024 = 64 * h.val + e.val; omega)
  rw [val_main_v1_apply, ei, val_main_v0_apply]
  refine Finset.sum_congr rfl fun d _ => congrArg₂ (· * ·) (congrArg x0 ?_) (congrArg x1 ?_)
  · exact eq_ix3 _
  · exact eq_ix2 _

theorem v19_read (b : Fin 2) (h : Fin 16) (i j : Fin 256) : val_main_v19 (F := Ideal) x0 x1 x2 (ix4 b h i j) = scoreR x0 x1 x2 b h i j := by
  rw [val_main_v19_apply, val_main_v18_apply, val_main_cst_apply, eighth_ofBits, val_main_v17_apply]
  refine congrArg (· * _) (Finset.sum_congr rfl fun e _ => ?_)
  have el : lidx_main_v17 (ix4 b h i j) e = ix4 b i h e := eq_ix4 _
  have er : ridx_main_v17 (ix4 b h i j) e = ix4 b j h e := eq_ix4 _
  rw [el, er, v1_read]

theorem v21_read (b : Fin 2) (h : Fin 16) (i j : Fin 256) : val_main_v21 (F := Ideal) x0 x1 x2 (ix4 b h i j) = maskedR x0 x1 x2 b h i j := by
  have ei : idx_main_v20 (idx_main_call4_v1 (ix4 b h i j)) = ix2 i j := eq_ix2 _
  rw [val_main_v21_apply, val_main_call4_v1_apply, val_main_v20_apply, ei, maskR_apply, v19_read, val_main_call4_v2_apply, val_main_call4_v0_apply,
    val_main_cst_3_apply, bot_ofBits]
  unfold maskedR
  by_cases hk : keep i j
  · rw [decide_eq_true hk, if_pos hk]; rfl
  · rw [decide_eq_false hk, if_neg hk]; rfl

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

theorem v22_read (b : Fin 2) (h : Fin 16) (i : Fin 256) : val_main_v22 (F := Ideal) x0 x1 x2 (ix3 b h i) = maxR x0 x1 x2 b h i := by
  unfold val_main_v22
  rw [Host.reduce_eq_fold_single FloatOps.maximumf _ _ reducesTo_S2x16x256x256_S2x16x256_d3 (by decide) h_S_ (ix3 b h i), val_main_cst_4_apply, bot_ofBits]
  refine Finset.fold_congr fun j _ => ?_
  exact (congrArg (val_main_v21 (F := Ideal) x0 x1 x2) (eq_ix4 _)).trans (v21_read x0 x1 x2 b h i j)

/-- The exponential of a masked score less the maximum. -/
def expR (b : Fin 2) (h : Fin 16) (i j : Fin 256) : EReal := Ideal.exp (maskedR x0 x1 x2 b h i j - maxR x0 x1 x2 b h i)

theorem v26_read (b : Fin 2) (h : Fin 16) (i j : Fin 256) : val_main_v26 (F := Ideal) x0 x1 x2 (ix4 b h i j) = expR x0 x1 x2 b h i j := by
  have ei : idx_main_v23 (idx_main_v24 (ix4 b h i j)) = ix3 b h i := eq_ix3 _
  rw [val_main_v26_apply, val_main_v25_apply, v21_read, val_main_v24_apply, val_main_v23_apply, ei, v22_read]
  rfl

/-! ## Every row has a key let through -/

instance : Std.Commutative (IntOp.ori (w := 1)) := ⟨by decide⟩
instance : Std.Associative (IntOp.ori (w := 1)) := ⟨by decide⟩

/-- A disjunction with a true member is true. -/
theorem fold_ori {n : Nat} (s : Finset (Fin n)) (f : Fin n → BitVec 1) (k : Fin n) (hk : k ∈ s) (h1 : f k = 1#1) : s.fold IntOp.ori 0#1 f = 1#1 := by
  classical
  rw [← Finset.insert_erase hk, Finset.fold_insert (Finset.notMem_erase k s), h1]
  generalize (s.erase k).fold IntOp.ori 0#1 f = z
  revert z; decide

theorem v27_read (i : Fin 256) : val_main_v27 (F := Ideal) (ix1 i) = 1#1 := by
  unfold val_main_v27
  rw [Host.reduce_eq_fold_single IntOp.ori _ _ reducesTo_S256x256_S256_d1 (by decide) h_S_ (ix1 i)]
  refine fold_ori _ _ i (Finset.mem_univ i) ?_
  refine (congrArg (val_main_v16 (F := Ideal)) (eq_ix2 _)).trans ((maskR_apply i i).trans ?_)
  rw [decide_eq_true (show keep i i from rfl)]; rfl

/-! ## The context -/

theorem v35_read (b : Fin 2) (h : Fin 16) (i j : Fin 256) :
    val_main_v35 (F := Ideal) x0 x1 x2 (ix4 b h i j) = Ideal.div (expR x0 x1 x2 b h i j) (0 + ∑ k : Fin 256, expR x0 x1 x2 b h i k) := by
  have e6 : idx_main_v34 (idx_main_call6_v1 (ix4 b h i j)) = ix1 i := eq_ix1 _
  have e5 : idx_main_v28 (idx_main_call5_v1 (idx_main_v32 (ix4 b h i j))) = ix1 i := eq_ix1 _
  have e30 : idx_main_v30 (idx_main_v32 (ix4 b h i j)) = ix3 b h i := eq_ix3 _
  rw [val_main_v35_apply, val_main_call6_v1_apply, val_main_v34_apply, e6, v27_read, select_one, val_main_v33_apply, v26_read, val_main_v32_apply,
    val_main_v31_apply, val_main_call5_v1_apply, val_main_v28_apply, e5, v27_read, select_one, val_main_v30_apply, e30, val_main_v29_apply]
  refine congrArg₂ Ideal.div rfl (congrArg₂ (· + ·) Ideal.ofBits_zero_f32 (Finset.sum_congr rfl fun k _ => ?_))
  exact (congrArg (val_main_v26 (F := Ideal) x0 x1 x2) (eq_ix4 _)).trans (v26_read x0 x1 x2 b h i k)

/-- **The reference's context at an element.** -/
theorem v38_read (b : Fin 2) (i : Fin 256) (h : Fin 16) (e : Fin 64) :
    val_main_v38 (F := Ideal) x0 x1 x2 x3 (ix3 b i (gcol h e))
      = ∑ j : Fin 256, x3 (ix4 b j h e) * Ideal.div (expR x0 x1 x2 b h i j) (0 + ∑ k : Fin 256, expR x0 x1 x2 b h i k) := by
  have ei : idx_main_v38 (ix3 b i (gcol h e)) = ix4 b i h e := funext fun a => Fin.ext (by
    match a with
    | ⟨0, _⟩ => show ((b.val * 256 + i.val) * 1024 + (64 * h.val + e.val)) / 262144 = b.val; omega
    | ⟨1, _⟩ => show ((b.val * 256 + i.val) * 1024 + (64 * h.val + e.val)) / 1024 % 256 = i.val; omega
    | ⟨2, _⟩ => show ((b.val * 256 + i.val) * 1024 + (64 * h.val + e.val)) / 64 % 16 = h.val; omega
    | ⟨3, _⟩ => show ((b.val * 256 + i.val) * 1024 + (64 * h.val + e.val)) % 64 = e.val; omega)
  rw [val_main_v38_apply, ei, val_main_v37_apply, val_main_v36_apply]
  refine Finset.sum_congr rfl fun j _ => congrArg₂ (· * ·) (congrArg x3 (eq_ix4 _)) ?_
  exact (congrArg (val_main_v35 (F := Ideal) x0 x1 x2) (eq_ix4 _)).trans (v35_read x0 x1 x2 b h i j)

/-- The reference's result at an element. -/
theorem v39_read (b : Fin 2) (i : Fin 256) (n : Fin 512) :
    val_main_v39 (F := Ideal) x0 x1 x2 x3 x4 (ix3 b i n) = ∑ k : Fin 1024, val_main_v38 (F := Ideal) x0 x1 x2 x3 (ix3 b i k) * x4 (ix2 k n) := by
  rw [val_main_v39_apply]
  exact Finset.sum_congr rfl fun k _ => congrArg₂ (· * ·) (congrArg (val_main_v38 (F := Ideal) x0 x1 x2 x3) (eq_ix3 _)) (congrArg x4 (eq_ix2 _))

end Cert.AttnProof

end
-- ==== Proof.Attention.lean ====
/-
# The kernel's context is the reference's

The devices' arguments are blocks of the reference's arrays, and queries, projection and keys are real numbers. Then
head `h` of device `c` is head `4 c + h` of the reference: both are the softmax of the same real scores over the same
keys, the reference's with the row's maximum taken out.
-/
module

public import proofs.«01_k».proof.Proof.Context
public import proofs.«01_k».proof.Proof.RefRead
public import proofs.«01_k».proof.Proof.Run
public import Idealize.ShloMosaic.Lib.Layout

@[expose] public section

noncomputable section

namespace Cert.AttnProof

open Cert.KernelIdeal Cert.KernelIdeal.Gen
open Idealize.ShloMosaic Idealize.ShloMosaic.TcCoe Idealize.ShloMosaic.ValueIdx
open Idealize.SL Idealize.SL.Sem
open scoped BigOperators

variable (m : (ℓ : Loc nD τ sig) → Buf (Elt Ideal) ℓ)
variable (x0 : (⟨S2x256x512, .f32⟩ : BufTy).Contents (Elt Ideal)) (x1 : (⟨S512x1024, .f32⟩ : BufTy).Contents (Elt Ideal))
  (x2 x3 : (⟨Cert.ReferenceIdeal.S2x256x16x64, .f32⟩ : BufTy).Contents (Elt Ideal)) (x4 : (⟨S1024x512, .f32⟩ : BufTy).Contents (Elt Ideal))

/-! ## A load at an index -/

theorem ldX_at (off : Fin 3 → Nat) (h : ∀ a, off a + S1x256x512.size a ≤ S2x256x512.size a) (f : (cc0_stg0_0 : Ref sig .tc).ty.Contents (Elt Ideal))
    (i : S1x256x512.Idx) (j : S2x256x512.Idx) (e : ∀ a, (j a).val = off a + (i a).val) : ldX off h f i = f j :=
  congrArg f (funext fun a => Fin.ext (by show off a + 1 * (i a).val = _; rw [e a]; omega))
theorem ldWq_at (off : Fin 2 → Nat) (h : ∀ a, off a + S512x256.size a ≤ S512x1024.size a) (f : (cc0_stg1_0 : Ref sig .tc).ty.Contents (Elt Ideal))
    (i : S512x256.Idx) (j : S512x1024.Idx) (e : ∀ a, (j a).val = off a + (i a).val) : ldWq off h f i = f j :=
  congrArg f (funext fun a => Fin.ext (by show off a + 1 * (i a).val = _; rw [e a]; omega))
theorem ldK_at (off : Fin 4 → Nat) (h : ∀ a, off a + S1x256x1x64.size a ≤ S2x256x4x64.size a) (f : (cc0_stg2_0 : Ref sig .tc).ty.Contents (Elt Ideal))
    (i : S1x256x1x64.Idx) (j : S2x256x4x64.Idx) (e : ∀ a, (j a).val = off a + (i a).val) : ldK off h f i = f j :=
  congrArg f (funext fun a => Fin.ext (by show off a + 1 * (i a).val = _; rw [e a]; omega))
theorem ldV_at (off : Fin 4 → Nat) (h : ∀ a, off a + S1x256x1x64.size a ≤ S2x256x4x64.size a) (f : (cc0_stg3_0 : Ref sig .tc).ty.Contents (Elt Ideal))
    (i : S1x256x1x64.Idx) (j : S2x256x4x64.Idx) (e : ∀ a, (j a).val = off a + (i a).val) : ldV off h f i = f j :=
  congrArg f (funext fun a => Fin.ext (by show off a + 1 * (i a).val = _; rw [e a]; omega))
theorem ldWo_at (off : Fin 2 → Nat) (h : ∀ a, off a + S256x512.size a ≤ S1024x512.size a) (f : (cc0_scratch2 : Ref sig .tc).ty.Contents (Elt Ideal))
    (i : S256x512.Idx) (j : S1024x512.Idx) (e : ∀ a, (j a).val = off a + (i a).val) : ldWo off h f i = f j :=
  congrArg f (funext fun a => Fin.ext (by show off a + 1 * (i a).val = _; rw [e a]; omega))

/-! ## The staged arguments are the arguments -/

theorem wqA_eq (c : Dev nD) : wqA m c = m ((c : Thread nD τ).loc main_arg1) := by
  funext i; exact congrArg (m ((c : Thread nD τ).loc main_arg1)) (funext fun a => Fin.ext (by fin_cases a <;> show 0 + 1 * _ = _ <;> omega))
theorem kA_eq (c : Dev nD) : kA m c = m ((c : Thread nD τ).loc main_arg2) := by
  funext i; exact congrArg (m ((c : Thread nD τ).loc main_arg2)) (funext fun a => Fin.ext (by fin_cases a <;> show 0 + 1 * _ = _ <;> omega))
theorem vA_eq (c : Dev nD) : vA m c = m ((c : Thread nD τ).loc main_arg3) := by
  funext i; exact congrArg (m ((c : Thread nD τ).loc main_arg3)) (funext fun a => Fin.ext (by fin_cases a <;> show 0 + 1 * _ = _ <;> omega))
theorem woA_eq (c : Dev nD) : woA m c = m ((c : Thread nD τ).loc main_arg4) := by
  funext i; exact congrArg (m ((c : Thread nD τ).loc main_arg4)) (funext fun a => Fin.ext (by fin_cases a <;> show 0 + 1 * _ = _ <;> omega))

/-! ## Arguments that are the reference's -/

/-- The memory `m` holds the reference's arrays `x0 … x4`, keys and values cut by heads. -/
structure Given : Prop where
  x : ∀ c : Dev nD, m ((c : Thread nD τ).loc main_arg0) = x0
  wq : ∀ c : Dev nD, m ((c : Thread nD τ).loc main_arg1) = x1
  k : ∀ c : Dev nD, m ((c : Thread nD τ).loc main_arg2) = Layout.block ⟨4, ![2, 256, 4, 64]⟩ ⟨4, ![2, 256, 16, 64]⟩ 2 4 c x2
  v : ∀ c : Dev nD, m ((c : Thread nD τ).loc main_arg3) = Layout.block ⟨4, ![2, 256, 4, 64]⟩ ⟨4, ![2, 256, 16, 64]⟩ 2 4 c x3
  wo : ∀ c : Dev nD, m ((c : Thread nD τ).loc main_arg4) = x4

set_option backward.proofsInPublic true in
/-- Head `h` of device `c`, among all sixteen. -/
def ghead (c : Dev nD) (h : Fin 4) : Fin 16 := ⟨4 * c.val + h.val, by have : c.val < 4 := c.isLt; omega⟩
set_option backward.proofsInPublic true in
/-- Column `k` of device `c`, among all 1024. -/
def glane (c : Dev nD) (k : Fin 256) : Fin 1024 := ⟨c.val * 256 + k.val, by have : c.val < 4 := c.isLt; omega⟩

theorem glane_col (c : Dev nD) (h : Fin 4) (e : Fin 64) : glane c (col h e) = gcol (ghead c h) e :=
  Fin.ext (by show c.val * 256 + (64 * h.val + e.val) = 64 * (4 * c.val + h.val) + e.val; omega)

theorem off1_eq (c : Dev nD) : k0_off1 c = ![0, c.val * 256] := by revert c; decide
theorem off2_eq (c : Dev nD) : k0_off2 c = ![c.val * 256, 0] := by revert c; decide
theorem off3_eq (c : Dev nD) (r : Fin 3) : k0_off3 c (BitVec.ofNat 32 (1 + r.val)) = ![(sh (neg r.succ) c).val * 256, 0] := by revert c r; decide

/-- A device's block of keys or values at an index. -/
theorem block_at (c : Dev nD) (x : (⟨Cert.ReferenceIdeal.S2x256x16x64, .f32⟩ : BufTy).Contents (Elt Ideal)) (b : Fin 2) (j : Fin 256) (h : Fin 4) (e : Fin 64) :
    Layout.block (⟨4, ![2, 256, 4, 64]⟩ : Shape) ⟨4, ![2, 256, 16, 64]⟩ 2 4 c x (by decide) (ix4 b j h e) = x (ix4 b j (ghead c h) e) :=
  congrArg x (funext fun a => Fin.ext (by
    match a with
    | ⟨0, _⟩ => rfl
    | ⟨1, _⟩ => rfl
    | ⟨2, _⟩ => show c.val * 4 + h.val = 4 * c.val + h.val; omega
    | ⟨3, _⟩ => rfl))

variable {m x0 x1 x2 x3 x4}

section Reads

variable (G : Given m x0 x1 x2 x3 x4) (c : Dev nD)
include G

theorem x_at (b : Fin 2) (i : Fin 256) (d : Fin 512) : ldX ![b.val, 0, 0] (xIn b) (xA m c) (ix3 0 i d) = x0 (ix3 b i d) := by
  rw [xA_eq, G.x c]
  exact ldX_at _ _ x0 _ _ fun a => by
    match a with
    | ⟨0, _⟩ => rfl
    | ⟨1, _⟩ => show i.val = 0 + i.val; omega
    | ⟨2, _⟩ => show d.val = 0 + d.val; omega

theorem wq_at (d : Fin 512) (k : Fin 256) : wqV m c (ix2 d k) = x1 (ix2 d (glane c k)) := by
  show shapeCast S512x256 (ldWq (k0_off1 c) (k0_off1_inb c) (wqA m c)) shapeCasts_S512x256_S512x256 (ix2 d k) = _
  rw [shapeCast_self, wqA_eq, G.wq c]
  exact ldWq_at _ _ x1 _ _ fun a => by
    rw [off1_eq]
    match a with
    | ⟨0, _⟩ => show d.val = 0 + d.val; omega
    | ⟨1, _⟩ => rfl

theorem k_at (b : Fin 2) (h : Fin 4) (j : Fin 256) (e : Fin 64) :
    ldK ![b.val, 0, h.val, 0] (kvIn b h) (kA m c) (ix4 0 j 0 e) = x2 (ix4 b j (ghead c h) e) := by
  rw [kA_eq, G.k c]
  refine (ldK_at _ _ _ _ (ix4 b j h e) fun a => ?_).trans (block_at c x2 b j h e)
  match a with
  | ⟨0, _⟩ => rfl
  | ⟨1, _⟩ => show j.val = 0 + j.val; omega
  | ⟨2, _⟩ => rfl
  | ⟨3, _⟩ => show e.val = 0 + e.val; omega

theorem v_at (b : Fin 2) (h : Fin 4) (j : Fin 256) (e : Fin 64) :
    ldV ![b.val, 0, h.val, 0] (kvIn b h) (vA m c) (ix4 0 j 0 e) = x3 (ix4 b j (ghead c h) e) := by
  rw [vA_eq, G.v c]
  refine (ldV_at _ _ _ _ (ix4 b j h e) fun a => ?_).trans (block_at c x3 b j h e)
  match a with
  | ⟨0, _⟩ => rfl
  | ⟨1, _⟩ => show j.val = 0 + j.val; omega
  | ⟨2, _⟩ => rfl
  | ⟨3, _⟩ => show e.val = 0 + e.val; omega

/-- Rows of the projection loaded from row `256 d` on. -/
theorem wo_at (d : Dev nD) (off : Fin 2 → Nat) (h : ∀ a, off a + S256x512.size a ≤ S1024x512.size a) (e : off = ![d.val * 256, 0]) (k : Fin 256) (n : Fin 512) :
    ldWo off h (wobV m c) (ix2 k n) = x4 (ix2 (glane d k) n) := by
  have hw : wobV m c = x4 := by
    show shapeCast S1024x512 (truncf (F := Ideal) .bf16 (shapeCast S1024x512 (woA m c) shapeCasts_S1024x512_S1024x512) bitsLt_bf16_f32) shapeCasts_S1024x512_S1024x512 = x4
    rw [shapeCast_self]
    show shapeCast S1024x512 (woA m c) shapeCasts_S1024x512_S1024x512 = x4
    exact (shapeCast_self (woA m c) _).trans ((woA_eq m c).trans (G.wo c))
  rw [hw]
  exact ldWo_at _ _ x4 _ _ fun a => by
    rw [e]
    match a with
    | ⟨0, _⟩ => rfl
    | ⟨1, _⟩ => show n.val = 0 + n.val; omega

/-! ## The context -/

/-- **A head of a device is a head of the reference.** -/
theorem ctx_head (hx : ∀ i, ∃ r : ℝ, x0 i = (r : EReal)) (hq : ∀ i, ∃ r : ℝ, x1 i = (r : EReal)) (hk : ∀ i, ∃ r : ℝ, x2 i = (r : EReal))
    (b : Fin 2) (i : Fin 256) (h : Fin 4) (e : Fin 64) :
    ctxB m b c (ix2 i (col h e)) = Cert.ReferenceIdeal.Read.val_main_v38 (F := Ideal) x0 x1 x2 x3 (ix3 b i (gcol (ghead c h) e)) := by
  choose r0 h0 using hx
  choose r1 h1 using hq
  choose r2 h2 using hk
  have score (j : Fin 256) : (∑ e : Fin 64, qV (wqV m c) (ldX ![b.val, 0, 0] (xIn b) (xA m c)) (ix2 i (col h e))
        * ldK ![b.val, 0, h.val, 0] (kvIn b h) (kA m c) (ix4 0 j 0 e)) = scoreR x0 x1 x2 b (ghead c h) i j := by
    unfold scoreR
    simp only [qV_apply, x_at G, wq_at G, k_at G, glane_col, h0, h1, h2]
    rw [score_scaled (fun _ d => r0 (ix3 b i d)) (fun d e => r1 (ix2 d (gcol (ghead c h) e))) (fun e => r2 (ix4 b j (ghead c h) e)),
      score_scaled_last (fun _ d => r0 (ix3 b i d)) (fun d e => r1 (ix2 d (gcol (ghead c h) e))) (fun e => r2 (ix4 b j (ghead c h) e))]
  have real (j : Fin 256) : ∃ s : ℝ, scoreR x0 x1 x2 b (ghead c h) i j = (s : EReal) := by
    unfold scoreR
    simp only [h0, h1, h2]
    exact ⟨_, score_scaled_last (fun _ d => r0 (ix3 b i d)) (fun d e => r1 (ix2 d (gcol (ghead c h) e))) (fun e => r2 (ix4 b j (ghead c h) e)) _⟩
  choose s hs using real
  rw [ctxB_eq, v38_read]
  unfold ctxV
  rw [catV_apply, headV_apply]
  simp only [weightV_apply, score, v_at G, expR, maxR, maskedR, hs]
  exact softmax_eq (fun j => keep i j) s (fun j => x3 (ix4 b j (ghead c h) e)) ⟨i, rfl⟩

end Reads

end Cert.AttnProof

end
-- ==== Proof.Value.lean ====
/-
# The kernel's result is the reference's

Every device adds up four products: its own context times its rows of the output projection, and the three received
contexts times their senders' rows. Over the ring these are the four blocks of one contraction over 1024 columns, in an
order that depends on the device; the sum does not.
-/
module

public import proofs.«01_k».proof.Proof.Attention
public import proofs.«01_k».proof.Pre_finite_inputs_KernelIdeal
public import Idealize.ShloMosaic.Lib.Pipeline.ValueKit.Acc
public import Idealize.ShloMosaic.Lib.ReduceAll

@[expose] public section

noncomputable section

namespace Cert.AttnProof

open Cert.KernelIdeal Cert.KernelIdeal.Gen
open Idealize.ShloMosaic Idealize.ShloMosaic.TcCoe Idealize.ShloMosaic.ValueIdx
open Idealize.SL Idealize.SL.Sem
open scoped BigOperators

/-! ## The precondition read back -/

theorem inf_ofBits : FloatOps.ofBits (F := Ideal) .f32 0x7F800000#32 = (⊤ : EReal) := by
  show Ideal.ofBits .f32 0x7F800000#32 = _
  simp [Ideal.ofBits, Ideal.ieee]

/-- A value whose magnitude compares below infinity is a real number. -/
theorem real_of_abs_lt (x : EReal) (h : FloatOps.cmpf (F := Ideal) (φ := .f32) .olt (FloatOps.absf (F := Ideal) (φ := .f32) x)
    (FloatOps.ofBits (F := Ideal) .f32 0x7F800000#32) = 1#1) : ∃ r : ℝ, x = (r : EReal) := by
  rw [inf_ofBits] at h
  have h' : BitVec.ofBool (decide (max x (-x) < (⊤ : EReal))) = 1#1 := h
  have lt : max x (-x) < (⊤ : EReal) := by
    by_contra hn
    rw [decide_eq_false hn] at h'
    exact absurd h' (by decide)
  have hx := max_lt_iff.1 lt
  refine ⟨x.toReal, (EReal.coe_toReal (ne_of_lt hx.1) ?_).symm⟩
  rintro rfl
  exact absurd hx.2 (by simp)

/-- Under the precondition, activations, query projection and keys of a device are real numbers. -/
theorem finite_of_pre [Cert.Pre_finite_inputs_KernelIdeal.Facts] (a0 : FVec Ideal S2x256x512 .f32) (a1 : FVec Ideal S512x1024 .f32)
    (a2 a3 : FVec Ideal S2x256x4x64 .f32) (a4 : FVec Ideal S1024x512 .f32)
    (h : Cert.Pre_finite_inputs_KernelIdeal.fn a0 a1 a2 a3 a4 = fun _ => 1#1) :
    (∀ i, ∃ r : ℝ, a0 i = (r : EReal)) ∧ (∀ i, ∃ r : ℝ, a1 i = (r : EReal)) ∧ ∀ i, ∃ r : ℝ, a2 i = (r : EReal) := by
  let j : S_.Idx := fun a => a.elim0
  haveI : Subsingleton S_.Idx := ⟨fun _ _ => funext fun a => a.elim0⟩
  obtain ⟨h01, h2⟩ := IntOp.andi_eq_one.1 (congrFun h j)
  obtain ⟨h0, h1⟩ := IntOp.andi_eq_one.1 h01
  exact ⟨fun i => real_of_abs_lt _ (Host.reduce_andi_all _ _ _ _ j h0 i), fun i => real_of_abs_lt _ (Host.reduce_andi_all _ _ _ _ j h1 i),
    fun i => real_of_abs_lt _ (Host.reduce_andi_all _ _ _ _ j h2 i)⟩

/-! ## One product -/

/-- A context times 256 rows of the output projection. -/
def prodV (x : FVec Ideal S256x256 .bf16) (w : FVec Ideal S256x512 .bf16) : FVec Ideal S256x512 .f32 :=
  matmul (φ₁ := .bf16) (φ₂ := .bf16) dot_S256x256_S256x512_S256x512_1_0_0_1_n_n none x w (constant S256x512 .f32 0x00000000#32)

theorem prodV_apply (x : FVec Ideal S256x256 .bf16) (w : FVec Ideal S256x512 .bf16) (i : Fin 256) (n : Fin 512) :
    prodV x w (ix2 i n) = ∑ k : Fin 256, x (ix2 i k) * w (ix2 k n) := by
  have E := Ideal.matmul_plain_apply (M := 256) (K := 256) (N := 512) (φ₁ := .bf16) (φ₂ := .bf16) none x w (constant S256x512 .f32 0x00000000#32) i n
  rw [show (constant (F := Ideal) S256x512 .f32 0x00000000#32) (ix2 i n) = (0 : EReal) from Ideal.ofBits_zero_f32, zero_add] at E
  exact E

/-- A received block, read back at its own shape, is the block sent. -/
theorem shapeCast_up (X : FVec Ideal S256x256 .bf16) : shapeCast S256x256 (up (F := Ideal) X) shapeCasts_S1x1x256x256_S256x256 = X := by
  funext ij
  obtain ⟨i, j, rfl⟩ : ∃ i j : Fin 256, ij = ix2 i j := ⟨ij 0, ij 1, eq_ix2 ij⟩
  refine (shapeCast_apply (up (F := Ideal) X) shapeCasts_S1x1x256x256_S256x256 _ (ix4 0 0 i j) (by
    rw [Shape.rowMajor_val_two, Shape.rowMajor_val_four]; show ((0 * 1 + 0) * 256 + i.val) * 256 + j.val = i.val * 256 + j.val; omega)).trans ?_
  exact congrArg X (Shape.reshapeEquiv_eq_of_rowMajor _ (by
    rw [Shape.rowMajor_val_two, Shape.rowMajor_val_four]; show i.val * 256 + j.val = ((0 * 1 + 0) * 256 + i.val) * 256 + j.val; omega))

section Values

variable (m : (ℓ : Loc nD τ sig) → Buf (Elt Ideal) ℓ)

/-- The output block of batch entry `b`: the own product, then the received ones in the order of waiting. -/
def outV (b : Fin 2) (c : Dev nD) : FVec Ideal S256x512 .f32 :=
  addf (addf (addf (prodV (ctxB m b c) (woMine m c)) (prodV (ctxB m b (sh (neg 1) c)) (wo1 m c)))
    (prodV (ctxB m b (sh (neg 3) c)) (wo3 m c))) (prodV (ctxB m b (sh (neg 2) c)) (wo2 m c))

theorem out0_eq (c : Dev nD) : out0 m c = shapeCast S1x256x512 (outV m 0 c) shapeCasts_S256x512_S1x256x512 := by
  show shapeCast S1x256x512 (addf (addf (addf (prodV (ctxB m 0 c) (woMine m c))
      (prodV (shapeCast S256x256 (got m 0 1 c) shapeCasts_S1x1x256x256_S256x256) (wo1 m c)))
      (prodV (shapeCast S256x256 (got m 0 3 c) shapeCasts_S1x1x256x256_S256x256) (wo3 m c)))
      (prodV (shapeCast S256x256 (got m 0 2 c) shapeCasts_S1x1x256x256_S256x256) (wo2 m c))) _ = _
  rw [shapeCast_up, shapeCast_up, shapeCast_up]; rfl

theorem out1_eq (c : Dev nD) : out1 m c = shapeCast S1x256x512 (outV m 1 c) shapeCasts_S256x512_S1x256x512 := by
  show shapeCast S1x256x512 (addf (addf (addf (prodV (ctxB m 1 c) (woMine m c))
      (prodV (shapeCast S256x256 (got m 1 1 c) shapeCasts_S1x1x256x256_S256x256) (wo1 m c)))
      (prodV (shapeCast S256x256 (got m 1 3 c) shapeCasts_S1x1x256x256_S256x256) (wo3 m c)))
      (prodV (shapeCast S256x256 (got m 1 2 c) shapeCasts_S1x1x256x256_S256x256) (wo2 m c))) _ = _
  rw [shapeCast_up, shapeCast_up, shapeCast_up]; rfl

/-- The output's row `b` is `outV`'s. -/
theorem outA_apply (c : Dev nD) (b : Fin 2) (i : Fin 256) (n : Fin 512) : outA m c (ix3 b i n) = outV m b c (ix2 i n) := by
  have cast (X : FVec Ideal S256x512 .f32) : shapeCast S1x256x512 X shapeCasts_S256x512_S1x256x512 (rowIx (ix3 b i n)) = X (ix2 i n) :=
    shapeCast_apply X shapeCasts_S256x512_S1x256x512 _ (ix2 i n) (by
      rw [Shape.rowMajor_val_two, Shape.rowMajor_val_three]; show i.val * 512 + n.val = (0 * 256 + i.val) * 512 + n.val; omega)
  unfold outA
  rw [outW_apply, out0_eq, out1_eq, cast, cast]
  match b with
  | 0 => exact if_pos rfl
  | 1 => exact if_neg (by show ¬(1 : Nat) = 0; decide)

end Values

/-! ## The result -/

variable {m : (ℓ : Loc nD τ sig) → Buf (Elt Ideal) ℓ}
variable {x0 : (⟨S2x256x512, .f32⟩ : BufTy).Contents (Elt Ideal)} {x1 : (⟨S512x1024, .f32⟩ : BufTy).Contents (Elt Ideal)}
  {x2 x3 : (⟨Cert.ReferenceIdeal.S2x256x16x64, .f32⟩ : BufTy).Contents (Elt Ideal)} {x4 : (⟨S1024x512, .f32⟩ : BufTy).Contents (Elt Ideal)}

/-- Keys that are real on every device's block are real. -/
theorem keys_real (G : Given m x0 x1 x2 x3 x4) (h : ∀ (c : Dev nD) i, ∃ r : ℝ, m ((c : Thread nD τ).loc main_arg2) i = (r : EReal)) (i : Cert.ReferenceIdeal.S2x256x16x64.Idx) :
    ∃ r : ℝ, x2 i = (r : EReal) := by
  obtain ⟨b, j, hd, e, rfl⟩ : ∃ (b : Fin 2) (j : Fin 256) (hd : Fin 16) (e : Fin 64), i = ix4 b j hd e := ⟨i 0, i 1, i 2, i 3, eq_ix4 i⟩
  have hh : hd = ghead ⟨hd.val / 4, by show hd.val / 4 < 4; omega⟩ ⟨hd.val % 4, by omega⟩ := Fin.ext (by show hd.val = 4 * (hd.val / 4) + hd.val % 4; omega)
  obtain ⟨r, hr⟩ := h ⟨hd.val / 4, by show hd.val / 4 < 4; omega⟩ (ix4 b j ⟨hd.val % 4, by omega⟩ e)
  rw [G.k] at hr
  rw [hh]
  exact ⟨r, (block_at _ x2 b j _ e).symm.trans hr⟩

/-- The sum over the ring, met from `c` down in the order one, three, two places, is the sum over the devices. -/
theorem sum_ring (f : Dev nD → EReal) (c : Dev nD) : f c + f (sh (neg 1) c) + f (sh (neg 3) c) + f (sh (neg 2) c) = ∑ d : Dev nD, f d := by
  have s : ∑ d : Dev nD, f d = f 0 + f 1 + f 2 + f 3 := Fin.sum_univ_four f
  rw [s]
  match c with
  | 0 => show f 0 + f 3 + f 1 + f 2 = _; abel
  | 1 => show f 1 + f 0 + f 2 + f 3 = _; abel
  | 2 => show f 2 + f 1 + f 3 + f 0 = _; abel
  | 3 => show f 3 + f 2 + f 0 + f 1 = _; abel

/-- **Every device ends with the reference's result.** -/
theorem outA_eq (G : Given m x0 x1 x2 x3 x4) (hx : ∀ i, ∃ r : ℝ, x0 i = (r : EReal)) (hq : ∀ i, ∃ r : ℝ, x1 i = (r : EReal))
    (hk : ∀ i, ∃ r : ℝ, x2 i = (r : EReal)) (c : Dev nD) : outA m c = Cert.ReferenceIdeal.Read.val_main_v39 (F := Ideal) x0 x1 x2 x3 x4 := by
  funext ix
  obtain ⟨b, i, n, rfl⟩ : ∃ (b : Fin 2) (i : Fin 256) (n : Fin 512), ix = ix3 b i n := ⟨ix 0, ix 1, ix 2, eq_ix3 ix⟩
  have ctx (d : Dev nD) (k : Fin 256) : ctxB m b d (ix2 i k) = Cert.ReferenceIdeal.Read.val_main_v38 (F := Ideal) x0 x1 x2 x3 (ix3 b i (glane d k)) := by
    have hk' : k = col ⟨k.val / 64, by omega⟩ ⟨k.val % 64, by omega⟩ := Fin.ext (by show k.val = 64 * (k.val / 64) + k.val % 64; omega)
    rw [hk', ctx_head G d hx hq hk, glane_col]
  have prod (d : Dev nD) (off : Fin 2 → Nat) (h : ∀ a, off a + S256x512.size a ≤ S1024x512.size a) (e : off = ![d.val * 256, 0]) :
      prodV (ctxB m b d) (ldWo off h (wobV m c)) (ix2 i n)
        = ∑ k : Fin 256, Cert.ReferenceIdeal.Read.val_main_v38 (F := Ideal) x0 x1 x2 x3 (ix3 b i (glane d k)) * x4 (ix2 (glane d k) n) := by
    rw [prodV_apply]
    exact Finset.sum_congr rfl fun k _ => congrArg₂ (· * ·) (ctx d k) (wo_at G c d off h e k n)
  rw [outA_apply, v39_read]
  show prodV _ _ (ix2 i n) + prodV _ _ (ix2 i n) + prodV _ _ (ix2 i n) + prodV _ _ (ix2 i n) = _
  rw [prod c _ _ (off2_eq c), prod (sh (neg 1) c) (k0_off3 c 1#32) _ (off3_eq c 0),
    prod (sh (neg 3) c) (k0_off3 c 3#32) _ (off3_eq c 2), prod (sh (neg 2) c) (k0_off3 c 2#32) _ (off3_eq c 1)]
  refine (sum_ring (fun d => ∑ k : Fin 256, Cert.ReferenceIdeal.Read.val_main_v38 (F := Ideal) x0 x1 x2 x3 (ix3 b i (glane d k)) * x4 (ix2 (glane d k) n)) c).trans ?_
  exact Fin.sum_mul_add_fin 4 256 (fun k : Fin 1024 => Cert.ReferenceIdeal.Read.val_main_v38 (F := Ideal) x0 x1 x2 x3 (ix3 b i k) * x4 (ix2 k n))

end Cert.AttnProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Run
public import proofs.«01_k».proof.Proof.Value
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

section SameText

variable {F : FTy → Type} [FloatOps F]

/-- The two kernels' bodies are one text, -/
theorem body_eq : @Cert.Kernel.cc0_body F _ _ = @Cert.KernelIdeal.cc0_body F _ _ := rfl

/-- so their tables of bodies are equal, -/
theorem bodies_eq : @Cert.Kernel.defs₀ F _ _ = @Cert.KernelIdeal.defs₀ F _ _ := by
  unfold Cert.Kernel.defs₀ Cert.KernelIdeal.defs₀
  refine congrArg Defs.onTc (funext fun l => funext fun p => ?_)
  match l, p with
  | 0, (t, s) => rw [body_eq]

/-- and so are the tables with the pipeline's loops. -/
theorem defs_eq : @Cert.Kernel.defs F _ _ = @Cert.KernelIdeal.defs F _ _ := congrArg (Pipeline.defs _) bodies_eq

end SameText

/-- The kernel runs, keeps its arguments and leaves every counter at zero: the run of the same text, read over bits. -/
theorem frame_kernel : Cert.quiescent_Kernel := fun m ρ _ => by
  rw [defs_eq]
  exact (θ_run Cert.KernelIdeal.defs _ _).mono (fun _ h => ⟨fun c => (h.1 c).2, h.2⟩) (Cert.AttnProof.run_read (F := Bits) m ρ)

/-- The idealized kernel likewise. -/
theorem frame_kernelIdeal : Cert.quiescent_KernelIdeal := fun m ρ _ =>
  (θ_run Cert.KernelIdeal.defs _ _).mono (fun _ h => ⟨fun c => (h.1 c).2, h.2⟩) (Cert.AttnProof.run_read (F := Ideal) m ρ)

/-- The reference has no semaphores, and its run keeps its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The side conditions of the precondition, on a device's blocks and on whole arrays. -/
theorem facts_pre_kernelIdeal : Cert.Pre_finite_inputs_KernelIdeal.Facts := ⟨by decide, by decide, by decide, by decide, by decide, by decide, by decide⟩
theorem facts_pre_referenceIdeal : Cert.Pre_finite_inputs_ReferenceIdeal.Facts := ⟨by decide, by decide, by decide, by decide, by decide, by decide, by decide⟩

attribute [local instance] facts_pre_kernelIdeal facts_pre_referenceIdeal

/-- The runs of the frames need no precondition, so they hold under one. -/
theorem frame_kernelIdeal_pre : Cert.quiescent_KernelIdeal_pre_finite_inputs_KernelIdeal := fun m ρ _ => frame_kernelIdeal m ρ trivial
theorem frame_reference_pre : Cert.quiescent_ReferenceIdeal_pre_finite_inputs_ReferenceIdeal := fun m ρ _ => frame_reference m ρ trivial

/-- **Every device of the idealized kernel ends with the reference's result.** -/
theorem algebraic : Cert.algebraic_KernelIdeal_ReferenceIdeal_pre_finite_inputs_KernelIdeal := fun m g m' g' pre hargs => by
  have G : Cert.AttnProof.Given m _ _ _ _ _ := ⟨fun c => (hargs c).1, fun c => (hargs c).2.1, fun c => (hargs c).2.2.1, fun c => (hargs c).2.2.2.1, fun c => (hargs c).2.2.2.2⟩
  have fin := fun c => Cert.AttnProof.finite_of_pre _ _ _ _ _ (pre c)
  have eq := Cert.AttnProof.outA_eq G (fun i => by have h := (fin 0).1 i; rw [G.x 0] at h; exact h) (fun i => by have h := (fin 0).2.1 i; rw [G.wq 0] at h; exact h)
    (Cert.AttnProof.keys_real G fun c => (fin c).2.2)
  refine ⟨Cert.ReferenceIdeal.Value.res_main_v39 m' 0, ?_, ?_⟩
  · refine (θ_run Cert.KernelIdeal.defs _ _).mono (fun _ h c => ⟨((h.1 c).1.trans (eq c)).trans ?_, (h.1 c).2⟩) (Cert.AttnProof.run_read (F := Ideal) m g)
    exact (Cert.ReferenceIdeal.Read.val_main_v39_eq m' 0).symm
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts, facts_pre_kernelIdeal, facts_pre_referenceIdeal,
  frame_kernel, frame_kernelIdeal, frame_kernelIdeal_pre, frame_reference, frame_reference_pre, trivial, algebraic⟩

end Cert.Proof

end
